-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)) (v7 : (c : Dev Cert.KernelIdeal.nD) → Buf (Elt Ideal) ((c.tc : Thread Cert.KernelIdeal.nD Cert.KernelIdeal.τ).loc Cert.KernelIdeal.main_v15_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_v15_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S2x896x7168 : Shape := ⟨3, ![2, 896, 7168]⟩
abbrev S2x896x8x128 : Shape := ⟨4, ![2, 896, 8, 128]⟩
abbrev S2x56 : Shape := ⟨2, ![2, 56]⟩
abbrev S2x8 : Shape := ⟨2, ![2, 8]⟩
abbrev S_ : Shape := ⟨0, ![]⟩

class Facts : Prop where
  bcast_S_S2x56 : S_.BroadcastsInDim S2x56 (![] : Fin 0 → Fin S2x56.rank)
  bcast_S_S2x8 : S_.BroadcastsInDim S2x8 (![] : Fin 0 → Fin S2x8.rank)

variable [Facts]

def fn {F : FTy → Type} [FloatOps F] (main_arg0 : FVec F S2x896x7168 .bf16) (main_arg1 : FVec F S2x896x8x128 .bf16) (main_arg2 : FVec F S2x896x8x128 .bf16) (main_arg3 : FVec F S2x56 .f32) (main_arg4 : FVec F S2x8 .f32) (main_arg5 : FVec F S2x8 .f32) : IVec S2x56 1 × IVec S2x56 1 × IVec S2x8 1 × IVec S2x8 1 :=
  let main_cst : FVec F S_ .f32 := constant S_ .f32 0x00000000#32
  let main_v0 : FVec F S2x56 .f32 := broadcastInDim S2x56 ![] bcast_S_S2x56 main_cst
  let main_v1 : IVec S2x56 1 := cmpf .ogt main_arg3 main_v0
  let main_cst_0 : FVec F S_ .f32 := constant S_ .f32 0x7F800000#32
  let main_v2 : FVec F S2x56 .f32 := broadcastInDim S2x56 ![] bcast_S_S2x56 main_cst_0
  let main_v3 : IVec S2x56 1 := cmpf .olt main_arg3 main_v2
  let main_cst_1 : FVec F S_ .f32 := constant S_ .f32 0x00000000#32
  let main_v4 : FVec F S2x8 .f32 := broadcastInDim S2x8 ![] bcast_S_S2x8 main_cst_1
  let main_v5 : IVec S2x8 1 := cmpf .ogt main_arg4 main_v4
  let main_cst_2 : FVec F S_ .f32 := constant S_ .f32 0x7F800000#32
  let main_v6 : FVec F S2x8 .f32 := broadcastInDim S2x8 ![] bcast_S_S2x8 main_cst_2
  let main_v7 : IVec S2x8 1 := cmpf .olt main_arg4 main_v6
  (main_v1, main_v3, main_v5, main_v7)
-- ==== Kernel.lean ====
abbrev S2x896x7168 : Shape := ⟨3, ![2, 896, 7168]⟩
abbrev S2x896x8x128 : Shape := ⟨4, ![2, 896, 8, 128]⟩
abbrev S2x56 : Shape := ⟨2, ![2, 56]⟩
abbrev S2x8 : Shape := ⟨2, ![2, 8]⟩
abbrev S2x8x7 : Shape := ⟨3, ![2, 8, 7]⟩
abbrev S2x8x1 : Shape := ⟨3, ![2, 8, 1]⟩
abbrev S_ : Shape := ⟨0, ![]⟩
abbrev S2x8x896x128 : Shape := ⟨4, ![2, 8, 896, 128]⟩
abbrev S2x8x7x128 : Shape := ⟨4, ![2, 8, 7, 128]⟩
abbrev S2x8x1x128 : Shape := ⟨4, ![2, 8, 1, 128]⟩
abbrev S1x896x896 : Shape := ⟨3, ![1, 896, 896]⟩
abbrev S1x1x896x128 : Shape := ⟨4, ![1, 1, 896, 128]⟩
abbrev S1x1x7x128 : Shape := ⟨4, ![1, 1, 7, 128]⟩
abbrev S1x1x1x128 : Shape := ⟨4, ![1, 1, 1, 128]⟩
abbrev S3x896x256 : Shape := ⟨3, ![3, 896, 256]⟩
abbrev S128x128 : Shape := ⟨2, ![128, 128]⟩
abbrev S896x128 : Shape := ⟨2, ![896, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S128x896 : Shape := ⟨2, ![128, 896]⟩
abbrev S1x896x128 : Shape := ⟨3, ![1, 896, 128]⟩
abbrev S1x128x128 : Shape := ⟨3, ![1, 128, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S1x128x256 : Shape := ⟨3, ![1, 128, 256]⟩
abbrev S256x256 : Shape := ⟨2, ![256, 256]⟩
abbrev S1x256x256 : Shape := ⟨3, ![1, 256, 256]⟩
abbrev S384x128 : Shape := ⟨2, ![384, 128]⟩
abbrev S384x256 : Shape := ⟨2, ![384, 256]⟩
abbrev S1x256x128 : Shape := ⟨3, ![1, 256, 128]⟩
abbrev S1x384x256 : Shape := ⟨3, ![1, 384, 256]⟩
abbrev S128x384 : Shape := ⟨2, ![128, 384]⟩
abbrev S512x128 : Shape := ⟨2, ![512, 128]⟩
abbrev S512x256 : Shape := ⟨2, ![512, 256]⟩
abbrev S1x384x128 : Shape := ⟨3, ![1, 384, 128]⟩
abbrev S1x512x256 : Shape := ⟨3, ![1, 512, 256]⟩
abbrev S128x512 : Shape := ⟨2, ![128, 512]⟩
abbrev S640x128 : Shape := ⟨2, ![640, 128]⟩
abbrev S640x256 : Shape := ⟨2, ![640, 256]⟩
abbrev S1x512x128 : Shape := ⟨3, ![1, 512, 128]⟩
abbrev S1x640x256 : Shape := ⟨3, ![1, 640, 256]⟩
abbrev S128x640 : Shape := ⟨2, ![128, 640]⟩
abbrev S768x128 : Shape := ⟨2, ![768, 128]⟩
abbrev S768x256 : Shape := ⟨2, ![768, 256]⟩
abbrev S1x640x128 : Shape := ⟨3, ![1, 640, 128]⟩
abbrev S1x768x256 : Shape := ⟨3, ![1, 768, 256]⟩
abbrev S128x768 : Shape := ⟨2, ![128, 768]⟩
abbrev S896x256 : Shape := ⟨2, ![896, 256]⟩
abbrev S1x768x128 : Shape := ⟨3, ![1, 768, 128]⟩
abbrev S1x896x256 : Shape := ⟨3, ![1, 896, 256]⟩

abbrev nBuf : Space → Nat
  | .hbm => 33
  | .vmem => 24
  | .smem => 5
  | _ => 0

abbrev bufTy : (tb : Table) → Fin (tcTables nBuf tb) → BufTy
  | .hbm, ⟨0, _⟩ => ⟨S2x896x7168, .bf16⟩
  | .hbm, ⟨1, _⟩ => ⟨S2x896x8x128, .bf16⟩
  | .hbm, ⟨2, _⟩ => ⟨S2x896x8x128, .bf16⟩
  | .hbm, ⟨3, _⟩ => ⟨S2x56, .f32⟩
  | .hbm, ⟨4, _⟩ => ⟨S2x8, .f32⟩
  | .hbm, ⟨5, _⟩ => ⟨S2x8, .f32⟩
  | .hbm, ⟨6, _⟩ => ⟨S2x8x7, .f32⟩
  | .hbm, ⟨7, _⟩ => ⟨S2x8x1, .f32⟩
  | .hbm, ⟨8, _⟩ => ⟨S2x8x7, .f32⟩
  | .hbm, ⟨9, _⟩ => ⟨S2x8x7, .f32⟩
  | .hbm, ⟨10, _⟩ => ⟨S_, .f32⟩
  | .hbm, ⟨11, _⟩ => ⟨S2x8x7, .f32⟩
  | .hbm, ⟨12, _⟩ => ⟨S2x8x7, .f32⟩
  | .hbm, ⟨13, _⟩ => ⟨S2x56, .f32⟩
  | .hbm, ⟨14, _⟩ => ⟨S2x8x896x128, .bf16⟩
  | .hbm, ⟨15, _⟩ => ⟨S2x8x896x128, .bf16⟩
  | .hbm, ⟨16, _⟩ => ⟨S_, .f32⟩
  | .hbm, ⟨17, _⟩ => ⟨S2x56, .f32⟩
  | .hbm, ⟨18, _⟩ => ⟨S2x56, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x896x7168, .bf16⟩
  | .hbm, ⟨26, _⟩ => ⟨S2x896x7168, .fp8e4m3⟩
  | .hbm, ⟨27, _⟩ => ⟨S2x8x896x128, .fp8e4m3⟩
  | .hbm, ⟨28, _⟩ => ⟨S2x8x896x128, .fp8e4m3⟩
  | .hbm, ⟨29, _⟩ => ⟨S2x8x7x128, .f32⟩
  | .hbm, ⟨30, _⟩ => ⟨S2x8x1x128, .f32⟩
  | .hbm, ⟨31, _⟩ => ⟨S2x8x1x128, .f32⟩
  | .hbm, ⟨32, _⟩ => ⟨S2x8x7x128, .f32⟩
  | .local _ .vmem, ⟨0, _⟩ => ⟨S1x896x896, .bf16⟩
  | .local _ .vmem, ⟨1, _⟩ => ⟨S1x896x896, .bf16⟩
  | .local _ .vmem, ⟨2, _⟩ => ⟨S1x1x896x128, .bf16⟩
  | .local _ .vmem, ⟨3, _⟩ => ⟨S1x1x896x128, .bf16⟩
  | .local _ .vmem, ⟨4, _⟩ => ⟨S1x1x896x128, .bf16⟩
  | .local _ .vmem, ⟨5, _⟩ => ⟨S1x1x896x128, .bf16⟩
  | .local _ .vmem, ⟨6, _⟩ => ⟨S1x896x896, .bf16⟩
  | .local _ .vmem, ⟨7, _⟩ => ⟨S1x896x896, .bf16⟩
  | .local _ .vmem, ⟨8, _⟩ => ⟨S1x896x896, .fp8e4m3⟩
  | .local _ .vmem, ⟨9, _⟩ => ⟨S1x896x896, .fp8e4m3⟩
  | .local _ .vmem, ⟨10, _⟩ => ⟨S1x1x896x128, .fp8e4m3⟩
  | .local _ .vmem, ⟨11, _⟩ => ⟨S1x1x896x128, .fp8e4m3⟩
  | .local _ .vmem, ⟨12, _⟩ => ⟨S1x1x896x128, .fp8e4m3⟩
  | .local _ .vmem, ⟨13, _⟩ => ⟨S1x1x896x128, .fp8e4m3⟩
  | .local _ .vmem, ⟨14, _⟩ => ⟨S1x1x7x128, .f32⟩
  | .local _ .vmem, ⟨15, _⟩ => ⟨S1x1x7x128, .f32⟩
  | .local _ .vmem, ⟨16, _⟩ => ⟨S1x1x1x128, .f32⟩
  | .local _ .vmem, ⟨17, _⟩ => ⟨S1x1x1x128, .f32⟩
  | .local _ .vmem, ⟨18, _⟩ => ⟨S1x1x1x128, .f32⟩
  | .local _ .vmem, ⟨19, _⟩ => ⟨S1x1x1x128, .f32⟩
  | .local _ .vmem, ⟨20, _⟩ => ⟨S1x1x7x128, .f32⟩
  | .local _ .vmem, ⟨21, _⟩ => ⟨S1x1x7x128, .f32⟩
  | .local _ .vmem, ⟨22, _⟩ => ⟨S3x896x256, .f32⟩
  | .local _ .vmem, ⟨23, _⟩ => ⟨S128x128, .f32⟩
  | .local _ .smem, ⟨0, _⟩ => ⟨S2x56, .f32⟩
  | .local _ .smem, ⟨1, _⟩ => ⟨S2x56, .f32⟩
  | .local _ .smem, ⟨2, _⟩ => ⟨S2x8, .f32⟩
  | .local _ .smem, ⟨3, _⟩ => ⟨S2x8, .f32⟩
  | .local _ .smem, ⟨4, _⟩ => ⟨S2x8, .f32⟩
  | _, _ => ⟨S2x896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let v33 : Index := Scalar.indexCast arg0
  let arg1 : BitVec 32 := BitVec.ofNat 32 (i 1).val
  let v34 : Index := Scalar.indexCast arg1
  ![v33.toNat, v34.toNat]
def k0_off2 (i : grid0.Coords) (c0_i32_41 : BitVec 32) : Fin 2 → Nat :=
  let arg0 : BitVec 32 := BitVec.ofNat 32 (i 0).val
  let v87 : Index := Scalar.indexCast arg0
  let arg1 : BitVec 32 := BitVec.ofNat 32 (i 1).val
  let c7_i32 : BitVec 32 := 7#32
  let v85 : BitVec 32 := Scalar.muli arg1 c7_i32
  let v86 : BitVec 32 := Scalar.addi v85 c0_i32_41
  let v88 : Index := Scalar.indexCast v86
  ![v87.toNat, v88.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x896x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x896x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x896x896 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x896x896 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x896x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x896x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x7x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x7x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x896x7168 : Shape := ⟨3, ![2, 896, 7168]⟩
abbrev S2x896x8x128 : Shape := ⟨4, ![2, 896, 8, 128]⟩
abbrev S2x56 : Shape := ⟨2, ![2, 56]⟩
abbrev S2x8 : Shape := ⟨2, ![2, 8]⟩
abbrev S2x8x896x128 : Shape := ⟨4, ![2, 8, 896, 128]⟩
abbrev S2x8x7x128 : Shape := ⟨4, ![2, 8, 7, 128]⟩
abbrev S2x8x1x128 : Shape := ⟨4, ![2, 8, 1, 128]⟩
abbrev S2x896x56x128 : Shape := ⟨4, ![2, 896, 56, 128]⟩
abbrev S2x8x7 : Shape := ⟨3, ![2, 8, 7]⟩
abbrev S2x8x7x1 : Shape := ⟨4, ![2, 8, 7, 1]⟩
abbrev S2x8x1 : Shape := ⟨3, ![2, 8, 1]⟩
abbrev S2x8x1x1 : Shape := ⟨4, ![2, 8, 1, 1]⟩
abbrev S2x1x56x1 : Shape := ⟨4, ![2, 1, 56, 1]⟩
abbrev S2x1x8x1 : Shape := ⟨4, ![2, 1, 8, 1]⟩
abbrev S2x896x8x7x128 : Shape := ⟨5, ![2, 896, 8, 7, 128]⟩
abbrev S2x8x7x896x128 : Shape := ⟨5, ![2, 8, 7, 896, 128]⟩
abbrev S2x8x7x1x1 : Shape := ⟨5, ![2, 8, 7, 1, 1]⟩
abbrev S2x8x7x896x896 : Shape := ⟨5, ![2, 8, 7, 896, 896]⟩
abbrev S1x896 : Shape := ⟨2, ![1, 896]⟩
abbrev S896 : Shape := ⟨1, ![896]⟩
abbrev S896x1 : Shape := ⟨2, ![896, 1]⟩
abbrev S896x896 : Shape := ⟨2, ![896, 896]⟩
abbrev S1x1x1x896x896 : Shape := ⟨5, ![1, 1, 1, 896, 896]⟩
abbrev S2x8x7x896 : Shape := ⟨4, ![2, 8, 7, 896]⟩
abbrev S2x8x7x896x1 : Shape := ⟨5, ![2, 8, 7, 896, 1]⟩
abbrev S2x8x1x1x1 : Shape := ⟨5, ![2, 8, 1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x896x7168, .bf16⟩
  | .hbm, ⟨1, _⟩ => ⟨S2x896x8x128, .bf16⟩
  | .hbm, ⟨2, _⟩ => ⟨S2x896x8x128, .bf16⟩
  | .hbm, ⟨3, _⟩ => ⟨S2x56, .f32⟩
  | .hbm, ⟨4, _⟩ => ⟨S2x8, .f32⟩
  | .hbm, ⟨5, _⟩ => ⟨S2x8, .f32⟩
  | .hbm, ⟨6, _⟩ => ⟨S2x896x7168, .bf16⟩
  | .hbm, ⟨7, _⟩ => ⟨S2x896x7168, .fp8e4m3⟩
  | .hbm, ⟨8, _⟩ => ⟨S2x8x896x128, .fp8e4m3⟩
  | .hbm, ⟨9, _⟩ => ⟨S2x8x896x128, .fp8e4m3⟩
  | .hbm, ⟨10, _⟩ => ⟨S2x8x7x128, .f32⟩
  | .hbm, ⟨11, _⟩ => ⟨S2x8x1x128, .f32⟩
  | .hbm, ⟨12, _⟩ => ⟨S2x8x1x128, .f32⟩
  | .hbm, ⟨13, _⟩ => ⟨S2x8x7x128, .f32⟩
  | .local _ .vmem, ⟨0, _⟩ => ⟨S2x896x7168, .bf16⟩
  | .local _ .vmem, ⟨1, _⟩ => ⟨S2x896x8x128, .bf16⟩
  | .local _ .vmem, ⟨2, _⟩ => ⟨S2x896x8x128, .bf16⟩
  | .local _ .vmem, ⟨3, _⟩ => ⟨S2x56, .f32⟩
  | .local _ .vmem, ⟨4, _⟩ => ⟨S2x8, .f32⟩
  | .local _ .vmem, ⟨5, _⟩ => ⟨S2x8, .f32⟩
  | .local _ .vmem, ⟨6, _⟩ => ⟨S2x896x7168, .bf16⟩
  | .local _ .vmem, ⟨7, _⟩ => ⟨S2x896x7168, .fp8e4m3⟩
  | .local _ .vmem, ⟨8, _⟩ => ⟨S2x8x896x128, .fp8e4m3⟩
  | .local _ .vmem, ⟨9, _⟩ => ⟨S2x8x896x128, .fp8e4m3⟩
  | .local _ .vmem, ⟨10, _⟩ => ⟨S2x8x7x128, .f32⟩
  | .local _ .vmem, ⟨11, _⟩ => ⟨S2x8x1x128, .f32⟩
  | .local _ .vmem, ⟨12, _⟩ => ⟨S2x8x1x128, .f32⟩
  | .local _ .vmem, ⟨13, _⟩ => ⟨S2x8x7x128, .f32⟩
  | _, _ => ⟨S2x896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x896x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x896x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x896x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x7x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8x7x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.RefRun.lean ====
module

public import proofs.«01_k».proof.Proof.Gen.ReferenceIdeal.Frame
public import Idealize.ShloMosaic.Lib.Pipeline.Value

/-!
# The reference's run

The reference is one call without a grid, so every window is its whole array: each result array ends as
the body's function of the argument arrays.
-/

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_6) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_7) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x896x7168.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 896 + 1 * (j 1).val = (j 1).val; omega
  | ⟨2, _⟩ => show win0_0.index t (2 : Fin 3) * 7168 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S2x896x8x128.Idx) : ((cfg0.win 1).blk t).view.emb j = j := by
  obtain ⟨e0, e1, e2, e3⟩ := idx_zero1 t
  funext a; apply Fin.ext
  match a with
  | ⟨0, _⟩ => show win0_1.index t (0 : Fin 4) * 2 + 1 * (j 0).val = (j 0).val; omega
  | ⟨1, _⟩ => show win0_1.index t (1 : Fin 4) * 896 + 1 * (j 1).val = (j 1).val; omega
  | ⟨2, _⟩ => show win0_1.index t (2 : Fin 4) * 8 + 1 * (j 2).val = (j 2).val; omega
  | ⟨3, _⟩ => show win0_1.index t (3 : Fin 4) * 128 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S2x896x8x128.Idx) : ((cfg0.win 2).blk t).view.emb j = j := by
  obtain ⟨e0, e1, e2, e3⟩ := idx_zero2 t
  funext a; apply Fin.ext
  match a with
  | ⟨0, _⟩ => show win0_2.index t (0 : Fin 4) * 2 + 1 * (j 0).val = (j 0).val; omega
  | ⟨1, _⟩ => show win0_2.index t (1 : Fin 4) * 896 + 1 * (j 1).val = (j 1).val; omega
  | ⟨2, _⟩ => show win0_2.index t (2 : Fin 4) * 8 + 1 * (j 2).val = (j 2).val; omega
  | ⟨3, _⟩ => show win0_2.index t (3 : Fin 4) * 128 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2x56.Idx) : ((cfg0.win 3).blk t).view.emb j = j := by
  obtain ⟨e0, e1⟩ := idx_zero3 t
  funext a; apply Fin.ext
  match a with
  | ⟨0, _⟩ => show win0_3.index t (0 : Fin 2) * 2 + 1 * (j 0).val = (j 0).val; omega
  | ⟨1, _⟩ => show win0_3.index t (1 : Fin 2) * 56 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2x8.Idx) : ((cfg0.win 4).blk t).view.emb j = j := by
  obtain ⟨e0, e1⟩ := idx_zero4 t
  funext a; apply Fin.ext
  match a with
  | ⟨0, _⟩ => show win0_4.index t (0 : Fin 2) * 2 + 1 * (j 0).val = (j 0).val; omega
  | ⟨1, _⟩ => show win0_4.index t (1 : Fin 2) * 8 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2x8.Idx) : ((cfg0.win 5).blk t).view.emb j = j := by
  obtain ⟨e0, e1⟩ := idx_zero5 t
  funext a; apply Fin.ext
  match a with
  | ⟨0, _⟩ => show win0_5.index t (0 : Fin 2) * 2 + 1 * (j 0).val = (j 0).val; omega
  | ⟨1, _⟩ => show win0_5.index t (1 : Fin 2) * 8 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x896x7168.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 896 + 1 * (j 1).val = (j 1).val; omega
  | ⟨2, _⟩ => show win0_6.index t (2 : Fin 3) * 7168 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x896x7168.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 896 + 1 * (j 1).val = (j 1).val; omega
  | ⟨2, _⟩ => show win0_7.index t (2 : Fin 3) * 7168 + 1 * (j 2).val = (j 2).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S2x8x896x128.Idx) : ((cfg0.win 8).blk t).view.emb j = j := by
  obtain ⟨e0, e1, e2, e3⟩ := idx_zero8 t
  funext a; apply Fin.ext
  match a with
  | ⟨0, _⟩ => show win0_8.index t (0 : Fin 4) * 2 + 1 * (j 0).val = (j 0).val; omega
  | ⟨1, _⟩ => show win0_8.index t (1 : Fin 4) * 8 + 1 * (j 1).val = (j 1).val; omega
  | ⟨2, _⟩ => show win0_8.index t (2 : Fin 4) * 896 + 1 * (j 2).val = (j 2).val; omega
  | ⟨3, _⟩ => show win0_8.index t (3 : Fin 4) * 128 + 1 * (j 3).val = (j 3).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S2x8x896x128.Idx) : ((cfg0.win 9).blk t).view.emb j = j := by
  obtain ⟨e0, e1, e2, e3⟩ := idx_zero9 t
  funext a; apply Fin.ext
  match a with
  | ⟨0, _⟩ => show win0_9.index t (0 : Fin 4) * 2 + 1 * (j 0).val = (j 0).val; omega
  | ⟨1, _⟩ => show win0_9.index t (1 : Fin 4) * 8 + 1 * (j 1).val = (j 1).val; omega
  | ⟨2, _⟩ => show win0_9.index t (2 : Fin 4) * 896 + 1 * (j 2).val = (j 2).val; omega
  | ⟨3, _⟩ => show win0_9.index t (3 : Fin 4) * 128 + 1 * (j 3).val = (j 3).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S2x8x7x128.Idx) : ((cfg0.win 10).blk t).view.emb j = j := by
  obtain ⟨e0, e1, e2, e3⟩ := idx_zero10 t
  funext a; apply Fin.ext
  match a with
  | ⟨0, _⟩ => show win0_10.index t (0 : Fin 4) * 2 + 1 * (j 0).val = (j 0).val; omega
  | ⟨1, _⟩ => show win0_10.index t (1 : Fin 4) * 8 + 1 * (j 1).val = (j 1).val; omega
  | ⟨2, _⟩ => show win0_10.index t (2 : Fin 4) * 7 + 1 * (j 2).val = (j 2).val; omega
  | ⟨3, _⟩ => show win0_10.index t (3 : Fin 4) * 128 + 1 * (j 3).val = (j 3).val; omega

theorem hz11 : (![0, 0, 0, 0] : Fin 4 → Nat) = fun _ => 0 := funext fun a => by fin_cases a <;> rfl

/-- Window 11's block index at the one point is zero on every axis. -/
theorem idx_zero11 : ∀ t : Fin cfg0.N, win0_11.index t (0 : Fin 4) = 0 ∧ win0_11.index t (1 : Fin 4) = 0 ∧ win0_11.index t (2 : Fin 4) = 0 ∧ win0_11.index t (3 : Fin 4) = 0 :=
  (by decide +kernel : ∀ t : Fin grid0.N, _)

/-- An index of window 11's block is the same index of its array. -/
theorem emb11 (t : Fin cfg0.N) (j : S2x8x1x128.Idx) : ((cfg0.win 11).blk t).view.emb j = j := by
  obtain ⟨e0, e1, e2, e3⟩ := idx_zero11 t
  funext a; apply Fin.ext
  match a with
  | ⟨0, _⟩ => show win0_11.index t (0 : Fin 4) * 2 + 1 * (j 0).val = (j 0).val; omega
  | ⟨1, _⟩ => show win0_11.index t (1 : Fin 4) * 8 + 1 * (j 1).val = (j 1).val; omega
  | ⟨2, _⟩ => show win0_11.index t (2 : Fin 4) * 1 + 1 * (j 2).val = (j 2).val; omega
  | ⟨3, _⟩ => show win0_11.index t (3 : Fin 4) * 128 + 1 * (j 3).val = (j 3).val; omega

theorem hz12 : (![0, 0, 0, 0] : Fin 4 → Nat) = fun _ => 0 := funext fun a => by fin_cases a <;> rfl

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S2x8x1x128.Idx) : ((cfg0.win 12).blk t).view.emb j = j := by
  obtain ⟨e0, e1, e2, e3⟩ := idx_zero12 t
  funext a; apply Fin.ext
  match a with
  | ⟨0, _⟩ => show win0_12.index t (0 : Fin 4) * 2 + 1 * (j 0).val = (j 0).val; omega
  | ⟨1, _⟩ => show win0_12.index t (1 : Fin 4) * 8 + 1 * (j 1).val = (j 1).val; omega
  | ⟨2, _⟩ => show win0_12.index t (2 : Fin 4) * 1 + 1 * (j 2).val = (j 2).val; omega
  | ⟨3, _⟩ => show win0_12.index t (3 : Fin 4) * 128 + 1 * (j 3).val = (j 3).val; omega

theorem hz13 : (![0, 0, 0, 0] : Fin 4 → Nat) = fun _ => 0 := funext fun a => by fin_cases a <;> rfl

/-- Window 13's block index at the one point is zero on every axis. -/
theorem idx_zero13 : ∀ t : Fin cfg0.N, win0_13.index t (0 : Fin 4) = 0 ∧ win0_13.index t (1 : Fin 4) = 0 ∧ win0_13.index t (2 : Fin 4) = 0 ∧ win0_13.index t (3 : Fin 4) = 0 :=
  (by decide +kernel : ∀ t : Fin grid0.N, _)

/-- An index of window 13's block is the same index of its array. -/
theorem emb13 (t : Fin cfg0.N) (j : S2x8x7x128.Idx) : ((cfg0.win 13).blk t).view.emb j = j := by
  obtain ⟨e0, e1, e2, e3⟩ := idx_zero13 t
  funext a; apply Fin.ext
  match a with
  | ⟨0, _⟩ => show win0_13.index t (0 : Fin 4) * 2 + 1 * (j 0).val = (j 0).val; omega
  | ⟨1, _⟩ => show win0_13.index t (1 : Fin 4) * 8 + 1 * (j 1).val = (j 1).val; omega
  | ⟨2, _⟩ => show win0_13.index t (2 : Fin 4) * 7 + 1 * (j 2).val = (j 2).val; omega
  | ⟨3, _⟩ => show win0_13.index t (3 : Fin 4) * 128 + 1 * (j 3).val = (j 3).val; omega

/-! ### Output window 6: the array after the run -/

/-- What the window's array ends holding: `out0_6` applied to the argument arrays in place of the input blocks (a value that the
    frame states apart, `kK_payN a…`, keeps its loads inside its own definition). -/
abbrev G6 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x896x7168 .bf16 :=
  k0_pay1 (k0_pay10 a3 a4 a5 (k0_pay13 a0 a1 a2 a3 a4 a5) (k0_pay14 a0 a1 a2 a3 a4 a5) (k0_pay15 a0 a1 a2 a3 a4 a5))

/-- A load of the whole of a block reads the block, and the one store through the whole rectangle leaves its payload. -/
theorem out6_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_6 (F := F) a0 a1 a2 a3 a4 a5 = G6 a0 a1 a2 a3 a4 a5 := by
  unfold out0_6
  rw [View.canon_unit_zero hz6, View.ld_unit_zero (S := S2x56) hz3 _ a3, View.ld_unit_zero (S := S2x8) hz4 _ a4, View.ld_unit_zero (S := S2x8) hz5 _ a5]

/-- Cutting the point's block out of `X` and reading `X` through the block's view give the same. -/
theorem cut6_eq (t : Fin cfg0.N) (X : Vec F S2x896x7168 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S2x896x7168.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x896x7168 .fp8e4m3 :=
  k0_pay7 (k0_pay12 a0 a1 a2 a3 a4 a5) a3

/-- A load of the whole of a block reads the block, and the one store through the whole rectangle leaves its payload. -/
theorem out7_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_7 (F := F) a0 a1 a2 a3 a4 a5 = G7 a0 a1 a2 a3 a4 a5 := by
  unfold out0_7
  rw [View.canon_unit_zero hz7, View.ld_unit_zero (S := S2x56) hz3 _ a3]

/-- Cutting the point's block out of `X` and reading `X` through the block's view give the same. -/
theorem cut7_eq (t : Fin cfg0.N) (X : Vec F S2x896x7168 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S2x896x7168.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x896x128 .fp8e4m3 :=
  k0_pay14 a0 a1 a2 a3 a4 a5

/-- The one store through the whole rectangle leaves its payload. -/
theorem out8_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S2x8x896x128 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x8x896x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x896x128 .fp8e4m3 :=
  k0_pay15 a0 a1 a2 a3 a4 a5

/-- The one store through the whole rectangle leaves its payload. -/
theorem out9_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S2x8x896x128 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S2x8x896x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x7x128 .f32 :=
  k0_pay3 a0

/-- A load of the whole of a block reads the block, and the one store through the whole rectangle leaves its payload. -/
theorem out10_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_10 (F := F) a0 a1 a2 a3 a4 a5 = G10 a0 a1 a2 a3 a4 a5 := by
  unfold out0_10
  rw [View.canon_unit_zero hz10, View.ld_unit_zero (S := S2x896x7168) hz0 _ a0]

/-- Cutting the point's block out of `X` and reading `X` through the block's view give the same. -/
theorem cut10_eq (t : Fin cfg0.N) (X : Vec F S2x8x7x128 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S2x8x7x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x1x128 .f32 :=
  k0_pay4 a1

/-- A load of the whole of a block reads the block, and the one store through the whole rectangle leaves its payload. -/
theorem out11_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_11 (F := F) a0 a1 a2 a3 a4 a5 = G11 a0 a1 a2 a3 a4 a5 := by
  unfold out0_11
  rw [View.canon_unit_zero hz11, View.ld_unit_zero (S := S2x896x8x128) hz1 _ a1]

/-- Cutting the point's block out of `X` and reading `X` through the block's view give the same. -/
theorem cut11_eq (t : Fin cfg0.N) (X : Vec F S2x8x1x128 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S2x8x1x128.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ### Output window 12: the array after the run -/

/-- What the window's array ends holding: `out0_12` applied to the argument arrays in place of the input blocks (a value that the
    frame states apart, `kK_payN a…`, keeps its loads inside its own definition). -/
abbrev G12 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x1x128 .f32 :=
  k0_pay5 a2

/-- A load of the whole of a block reads the block, and the one store through the whole rectangle leaves its payload. -/
theorem out12_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_12 (F := F) a0 a1 a2 a3 a4 a5 = G12 a0 a1 a2 a3 a4 a5 := by
  unfold out0_12
  rw [View.canon_unit_zero hz12, View.ld_unit_zero (S := S2x896x8x128) hz2 _ a2]

/-- Cutting the point's block out of `X` and reading `X` through the block's view give the same. -/
theorem cut12_eq (t : Fin cfg0.N) (X : Vec F S2x8x1x128 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5)) := by
  show (cfg0.win 12).cut (grid0.coords t) ((dats m 0 c).after 12 t) = _
  rw [after0_12, out12_eq, iblk0_eq, iblk1_eq, iblk2_eq, iblk3_eq, iblk4_eq, iblk5_eq]
  exact cut12_eq t _

/-- Every index of the array is in the point's block. -/
theorem covered12 (i : S2x8x1x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 12 (G12 (V m c main_arg0) (V m c main_arg1) (V m c main_arg2) (V m c main_arg3) (V m c main_arg4) (V m c main_arg5)) (fun t _ => flushed12_eq m c t) covered12).trans (by rw [V_main_arg0, V_main_arg1, V_main_arg2, V_main_arg3, V_main_arg4, V_main_arg5])

/-! ### Output window 13: the array after the run -/

/-- What the window's array ends holding: `out0_13` applied to the argument arrays in place of the input blocks (a value that the
    frame states apart, `kK_payN a…`, keeps its loads inside its own definition). -/
abbrev G13 (a0 : Vec F S2x896x7168 .bf16) (a1 : Vec F S2x896x8x128 .bf16) (a2 : Vec F S2x896x8x128 .bf16) (a3 : Vec F S2x56 .f32) (a4 : Vec F S2x8 .f32) (a5 : Vec F S2x8 .f32) : Vec F S2x8x7x128 .f32 :=
  k0_pay11 a3 a4 a5 (k0_pay13 a0 a1 a2 a3 a4 a5) (k0_pay14 a0 a1 a2 a3 a4 a5) (k0_pay15 a0 a1 a2 a3 a4 a5)

/-- A load of the whole of a block reads the block, and the one store through the whole rectangle leaves its payload. -/
theorem out13_eq (a0 : Vec F S2x896x7168 .bf16) (a1 : Vec F S2x896x8x128 .bf16) (a2 : Vec F S2x896x8x128 .bf16) (a3 : Vec F S2x56 .f32) (a4 : Vec F S2x8 .f32) (a5 : Vec F S2x8 .f32) : out0_13 (F := F) a0 a1 a2 a3 a4 a5 = G13 a0 a1 a2 a3 a4 a5 := by
  unfold out0_13
  rw [View.canon_unit_zero hz13, View.ld_unit_zero (S := S2x56) hz3 _ a3, View.ld_unit_zero (S := S2x8) hz4 _ a4, View.ld_unit_zero (S := S2x8) hz5 _ a5]

/-- Cutting the point's block out of `X` and reading `X` through the block's view give the same. -/
theorem cut13_eq (t : Fin cfg0.N) (X : Vec F S2x8x7x128 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5)) := by
  show (cfg0.win 13).cut (grid0.coords t) ((dats m 0 c).after 13 t) = _
  rw [after0_13, out13_eq, iblk0_eq, iblk1_eq, iblk2_eq, iblk3_eq, iblk4_eq, iblk5_eq]
  exact cut13_eq t _

/-- Every index of the array is in the point's block. -/
theorem covered13 (i : S2x8x7x128.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 13 (G13 (V m c main_arg0) (V m c main_arg1) (V m c main_arg2) (V m c main_arg3) (V m c main_arg4) (V m c main_arg5)) (fun t _ => flushed13_eq m c t) covered13).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_6) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_7) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Run

end
-- ==== Proof.Softmax.lean ====
module

public import Idealize.ShloMosaic.PureOps.Ideal
public import Mathlib.Analysis.SpecialFunctions.Pow.Real

/-!
# The arithmetic of one attention row

Over the extended reals, the blocked base-two softmax of the kernel and the causal softmax of the
reference are the same function of the scores of one row.
-/

@[expose] public section

noncomputable section

namespace Cert.Attn

open Idealize.ShloMosaic

/-- The reference's masked and scaled score of key `s` for the query at position `q`. -/
def masked {N : ℕ} (z : Fin N → EReal) (c : EReal) (q : ℕ) (s : Fin N) : EReal :=
  if s.1 ≤ q then z s * c else ⊥

/-- The reference's unnormalised softmax weight of key `s` for the query at position `q`. -/
def weight {N : ℕ} (z : Fin N → EReal) (c : EReal) (q : ℕ) (s : Fin N) : EReal :=
  Ideal.exp (masked z c q s - Finset.univ.sup (masked z c q))

/-- The reference's attention output: the weighted sum of the values, rescaled, divided by the sum of
    the weights. -/
def attend {N : ℕ} (z v : Fin N → EReal) (c vs : EReal) (q : ℕ) : EReal :=
  Ideal.div ((∑ s, weight z c q s * v s) * vs) (∑ s, weight z c q s)

/-- A fold of `max` from `⊥` is the supremum. -/
theorem fold_max_eq_sup {ι : Type} (t : Finset ι) (f : ι → EReal) :
    t.fold max ⊥ f = t.sup f := rfl

/-- A base-two exponential of a real times `1 / log 2` is the natural exponential. -/
theorem exp2_mul_inv_log (x : ℝ) :
    Ideal.exp2 ((x * (Real.log 2)⁻¹ : ℝ) : EReal) = Ideal.exp (x : EReal) := by
  have h2 : Real.log 2 ≠ 0 := (Real.log_pos (by norm_num)).ne'
  rw [Ideal.exp2_coe, Ideal.exp_coe]
  congr 1
  change (2 : ℝ) ^ (x * (Real.log 2)⁻¹) = _
  rw [Real.rpow_def_of_pos (by norm_num)]
  congr 1
  field_simp

/-- The greatest of finitely many masked real scores, at least one of them visible, is the score of a
    visible key. -/
theorem exists_sup_eq {n : ℕ} (z : Fin n → ℝ) (q : ℕ) (hq : q < n) (S : Fin n → EReal)
    (hS : ∀ s, S s = if s.1 ≤ q then ((z s : ℝ) : EReal) else ⊥) :
    ∃ t : Fin n, t.1 ≤ q ∧ Finset.univ.sup S = ((z t : ℝ) : EReal) := by
  obtain ⟨t, -, ht⟩ := Finset.exists_mem_eq_sup Finset.univ ⟨(⟨q, hq⟩ : Fin n), Finset.mem_univ _⟩ S
  refine ⟨t, ?_, ?_⟩
  · by_contra hc
    have h1 : S ⟨q, hq⟩ ≤ Finset.univ.sup S := Finset.le_sup (Finset.mem_univ _)
    rw [ht, hS t, if_neg hc, hS, if_pos le_rfl] at h1
    exact absurd h1 (by simp)
  · rw [ht, hS t]
    by_cases hc : t.1 ≤ q
    · rw [if_pos hc]
    · exfalso
      have h1 : S ⟨q, hq⟩ ≤ Finset.univ.sup S := Finset.le_sup (Finset.mem_univ _)
      rw [ht, hS t, if_neg hc, hS, if_pos le_rfl] at h1
      exact absurd h1 (by simp)

/-- The supremum of the reference's scaled scores is the scaled score of the key at which the
    kernel's unscaled scores are greatest. -/
theorem sup_masked {N n : ℕ} (hn : n ≤ N) (z : Fin N → ℝ) (c : ℝ) (hc : 0 < c) (q : ℕ) (hq : q < n)
    (S : Fin n → EReal)
    (hS : ∀ s, S s = if s.1 ≤ q then ((z (Fin.castLE hn s) : ℝ) : EReal) else ⊥) :
    ∃ μ : ℝ, Finset.univ.sup S = (μ : EReal) ∧
      Finset.univ.sup (masked (fun s => ((z s : ℝ) : EReal)) c q) = ((μ * c : ℝ) : EReal) := by
  obtain ⟨t, htq, ht⟩ := exists_sup_eq (fun s => z (Fin.castLE hn s)) q hq S hS
  refine ⟨_, ht, le_antisymm ?_ ?_⟩
  · refine Finset.sup_le fun s _ => ?_
    unfold masked
    split
    · next h =>
      have hs : s.1 < n := lt_of_le_of_lt h hq
      have h1 : S ⟨s.1, hs⟩ ≤ Finset.univ.sup S := Finset.le_sup (Finset.mem_univ _)
      rw [ht, hS, if_pos h, EReal.coe_le_coe_iff] at h1
      rw [← EReal.coe_mul, EReal.coe_le_coe_iff]
      exact mul_le_mul_of_nonneg_right h1 hc.le
    · exact bot_le
  · have h1 : masked (fun s => ((z s : ℝ) : EReal)) c q (Fin.castLE hn t) ≤
        Finset.univ.sup (masked (fun s => ((z s : ℝ) : EReal)) c q) := Finset.le_sup (Finset.mem_univ _)
    refine le_trans (le_of_eq ?_) h1
    unfold masked
    rw [if_pos (show (Fin.castLE hn t).1 ≤ q from htq), EReal.coe_mul]

/-- The kernel's weight of a key of the row's blocks is the reference's. -/
theorem weight_eq {N n : ℕ} (hn : n ≤ N) (z : Fin N → ℝ) (c : ℝ) (hc : 0 < c) (q : ℕ) (hq : q < n)
    (S : Fin n → EReal)
    (hS : ∀ s, S s = if s.1 ≤ q then ((z (Fin.castLE hn s) : ℝ) : EReal) else ⊥) (s : Fin n) :
    Ideal.exp2 ((S s - Finset.univ.sup S) * ((c : EReal) * (((Real.log 2)⁻¹ : ℝ) : EReal))) =
      weight (fun s => ((z s : ℝ) : EReal)) c q (Fin.castLE hn s) := by
  obtain ⟨μ, h1, h2⟩ := sup_masked hn z c hc q hq S hS
  have hl : 0 < (Real.log 2)⁻¹ := inv_pos.mpr (Real.log_pos (by norm_num))
  unfold weight
  rw [h1, h2, hS s]
  unfold masked
  by_cases h : s.1 ≤ q
  · rw [if_pos h, if_pos (show (Fin.castLE hn s).1 ≤ q from h), ← EReal.coe_mul, ← EReal.coe_mul,
      ← EReal.coe_sub, ← EReal.coe_sub, ← EReal.coe_mul, ← exp2_mul_inv_log]
    congr 2
    ring
  · rw [if_neg h, if_neg (show ¬ (Fin.castLE hn s).1 ≤ q from h), ← EReal.coe_mul, EReal.bot_sub,
      EReal.bot_sub, EReal.bot_mul_coe_of_pos (mul_pos hc hl)]
    rfl

/-- The reference's weight of an invisible key is zero. -/
theorem weight_of_lt {N : ℕ} (z : Fin N → EReal) (c : EReal) (q : ℕ) (s : Fin N) (h : q < s.1) :
    weight z c q s = 0 := by
  unfold weight
  rw [masked, if_neg (by omega), EReal.bot_sub]
  rfl

/-- A sum whose terms vanish from `n` on is the sum of its first `n` terms. -/
theorem sum_castLE {N n : ℕ} (hn : n ≤ N) (f : Fin N → EReal) (hf : ∀ s : Fin N, n ≤ s.1 → f s = 0) :
    ∑ s, f s = ∑ s : Fin n, f (Fin.castLE hn s) := by
  symm
  refine Finset.sum_of_injOn (Fin.castLE hn) (fun a _ b _ h => Fin.castLE_injective hn h)
    (fun _ _ => Finset.mem_coe.2 (Finset.mem_univ _)) ?_ (fun _ _ => rfl)
  intro s _ hs
  refine hf s ?_
  by_contra hc
  exact hs ⟨⟨s.1, by omega⟩, by simp, rfl⟩

/-- The sum of finitely many reals, taken in the extended reals. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The sum of the reference's weights is a positive real. -/
theorem exists_sum_weight {N : ℕ} (z : Fin N → ℝ) (c : ℝ) (hc : 0 < c) (q : ℕ) (hq : q < N) :
    ∃ l : ℝ, 0 < l ∧ ∑ s, weight (fun s => ((z s : ℝ) : EReal)) c q s = (l : EReal) := by
  obtain ⟨μ, -, h2⟩ := sup_masked le_rfl z c hc q hq
    (fun s => if s.1 ≤ q then ((z s : ℝ) : EReal) else ⊥) (fun _ => rfl)
  have hw : ∀ s, weight (fun s => ((z s : ℝ) : EReal)) c q s =
      ((if s.1 ≤ q then Real.exp (z s * c - μ * c) else 0 : ℝ) : EReal) := by
    intro s
    unfold weight
    rw [h2]
    unfold masked
    split
    · rw [← EReal.coe_mul, ← EReal.coe_sub]; rfl
    · rw [EReal.bot_sub]; rfl
  refine ⟨∑ s : Fin N, (if s.1 ≤ q then Real.exp (z s * c - μ * c) else 0 : ℝ), ?_, ?_⟩
  · refine Finset.sum_pos' (fun s _ => ?_) ⟨⟨q, hq⟩, Finset.mem_univ _, ?_⟩
    · split
      · exact (Real.exp_pos _).le
      · exact le_rfl
    · rw [if_pos le_rfl]; exact Real.exp_pos _
  · rw [coe_sum]
    exact Finset.sum_congr rfl fun s _ => hw s

/-- The kernel's attention value of one row, over the keys of the row's blocks, is the reference's over
    all keys. -/
theorem attend_eq {N n : ℕ} (hn : n ≤ N) (z : Fin N → EReal) (hz : ∀ s, ∃ r : ℝ, z s = (r : EReal))
    (c : EReal) (hc : ∃ r : ℝ, 0 < r ∧ c = (r : EReal)) (q : ℕ) (hq : q < n) (v : Fin N → EReal)
    (vs : EReal) (S : Fin n → EReal)
    (hS : ∀ s, S s = if s.1 ≤ q then z (Fin.castLE hn s) else ⊥) (M : EReal)
    (hM : M = Finset.univ.sup S) :
    (∑ s : Fin n, v (Fin.castLE hn s) *
        Ideal.exp2 ((S s - M) * (c * (((Real.log 2)⁻¹ : ℝ) : EReal)))) *
      Ideal.div vs (∑ s : Fin n, Ideal.exp2 ((S s - M) * (c * (((Real.log 2)⁻¹ : ℝ) : EReal)))) =
      attend z v c vs q := by
  choose y hy using hz
  obtain ⟨c, hc0, rfl⟩ := hc
  obtain rfl : z = fun s => ((y s : ℝ) : EReal) := funext hy
  subst hM
  simp only [weight_eq hn y c hc0 q hq S hS]
  unfold attend
  rw [sum_castLE hn (fun s => weight (fun s => ((y s : ℝ) : EReal)) c q s * v s)
      (fun s hs => by rw [weight_of_lt _ _ _ _ (by omega), zero_mul]),
    ← sum_castLE hn (fun s => weight (fun s => ((y s : ℝ) : EReal)) c q s)
      (fun s hs => weight_of_lt _ _ _ _ (by omega))]
  obtain ⟨l, hl, h⟩ := exists_sum_weight y c hc0 q (lt_of_lt_of_le hq hn)
  rw [h, Ideal.div_coe hl.ne', Ideal.div_coe hl.ne', mul_assoc]
  simp only [mul_comm (v _)]

end Cert.Attn
-- ==== Proof.Spec.lean ====
module

public import proofs.«01_k».proof.Proof.Softmax
public import Idealize.ShloMosaic.Lib.Pointwise

/-!
# What both programs compute

The eight results, element by element, as functions of the six argument arrays.
-/

@[expose] public section

noncomputable section

namespace Cert.Attn

open Idealize.ShloMosaic

/-- The contents of the query array, of the key and value arrays, of the query scales, and of the key and
    value scales. -/
abbrev Queries := (⟨3, ![2, 896, 7168]⟩ : Shape).Idx → EReal
/-- The contents of the key array or of the value array. -/
abbrev Heads := (⟨4, ![2, 896, 8, 128]⟩ : Shape).Idx → EReal
/-- The contents of the array of query scales. -/
abbrev QScales := (⟨2, ![2, 56]⟩ : Shape).Idx → EReal
/-- The contents of the array of key scales or of value scales. -/
abbrev Scales := (⟨2, ![2, 8]⟩ : Shape).Idx → EReal

/-- The absolute value as the programs take it. -/
def mag (t : EReal) : EReal := max t (-t)

/-- The code of an element `t` under the reciprocal scale `r`: their product, clipped. -/
def clipped (t r : EReal) : EReal :=
  min (Ideal.ofBits .f32 0x43E00000#32) (max (Ideal.ofBits .f32 0xC3E00000#32) (t * r))

/-- The code of query head `h` at position `s`, lane `d`. -/
def qcode (X : Queries) (qs : QScales) (b : Fin 2) (h : Fin 56) (s : Fin 896) (d : Fin 128) : EReal :=
  clipped (X (ix3 b s ⟨h.1 * 128 + d.1, by omega⟩)) (Ideal.div 1 (qs (ix2 b h)))

/-- The code of key or value head `kv` at position `s`, lane `d`. -/
def kcode (K : Heads) (ks : Scales) (b : Fin 2) (kv : Fin 8) (s : Fin 896) (d : Fin 128) : EReal :=
  clipped (K (ix4 b s kv d)) (Ideal.div 1 (ks (ix2 b kv)))

/-- The factor from a product of codes to a score. -/
def coef (qs : QScales) (ks : Scales) (b : Fin 2) (kv : Fin 8) (h : Fin 56) : EReal :=
  qs (ix2 b h) * ks (ix2 b kv) * Ideal.ofBits .f32 0x3DB504F3#32

/-- The product of the codes of query `s` of head `h` and of key `t`. -/
def dots (X : Queries) (K : Heads) (qs : QScales) (ks : Scales) (b : Fin 2) (kv : Fin 8) (h : Fin 56)
    (s t : Fin 896) : EReal :=
  ∑ d, qcode X qs b h s d * kcode K ks b kv t d

/-- The attention output of query head `7 kv + g` at position `s`, lane `d`. -/
def att (X : Queries) (K V : Heads) (qs : QScales) (ks vs : Scales) (b : Fin 2) (kv : Fin 8) (g : Fin 7)
    (s : Fin 896) (d : Fin 128) : EReal :=
  attend (dots X K qs ks b kv ⟨kv.1 * 7 + g.1, by omega⟩ s) (fun t => kcode V vs b kv t d)
    (coef qs ks b kv ⟨kv.1 * 7 + g.1, by omega⟩) (vs (ix2 b kv)) s.1

/-- The largest magnitude of a table of positions and lanes. -/
def amax (f : Fin 896 → Fin 128 → EReal) : EReal :=
  Finset.univ.sup fun p : Fin 896 × Fin 128 => mag (f p.1 p.2)

/-- The pattern of negative infinity is the least extended real. -/
theorem ofBits_neg_inf : Ideal.ofBits .f32 0xFF800000#32 = (⊥ : EReal) := by
  simp [Ideal.ofBits, Ideal.ieee]

/-- The pattern of negative infinity at sixteen bits is the least extended real. -/
theorem ofBits_neg_inf16 : Ideal.ofBits .bf16 0xFF80#16 = (⊥ : EReal) := by
  simp [Ideal.ofBits, Ideal.ieee]

/-- A code is a real number. -/
theorem exists_clipped (t r : EReal) : ∃ y : ℝ, clipped t r = (y : EReal) := by
  have ha : ∃ a : ℝ, Ideal.ofBits .f32 0x43E00000#32 = (a : EReal) := by
    simp only [Ideal.ofBits, Ideal.ieee]
    exact ⟨_, rfl⟩
  have hb : ∃ b : ℝ, Ideal.ofBits .f32 0xC3E00000#32 = (b : EReal) := by
    simp only [Ideal.ofBits, Ideal.ieee]
    exact ⟨_, rfl⟩
  obtain ⟨a, ha⟩ := ha
  obtain ⟨b, hb⟩ := hb
  unfold clipped
  rw [ha, hb]
  generalize t * r = x
  have h1 : min (a : EReal) (max b x) ≠ ⊤ := ne_of_lt (lt_of_le_of_lt (min_le_left _ _) (EReal.coe_lt_top a))
  have h2 : min (a : EReal) (max b x) ≠ ⊥ :=
    ne_of_gt (lt_min (EReal.bot_lt_coe a) (lt_of_lt_of_le (EReal.bot_lt_coe b) (le_max_left _ _)))
  exact ⟨_, (EReal.coe_toReal h1 h2).symm⟩

end Cert.Attn
-- ==== Proof.Unit.lean ====
module

public import proofs.«01_k».proof.Proof.Spec
public import Idealize.ShloMosaic.Lib.Pointwise.IndexVar
public import Idealize.ShloMosaic.Lib.Pipeline.ReadBack
public import Idealize.ShloMosaic.Lib.ValueLayout

/-!
# One unit of the kernel's work

At a grid point the kernel goes over its block in units: 128 queries of one or of two heads. A unit's two stages
are the same operations at every size, so each step is stated here once, at any number `n` of keys and any width
`w`. Column `j` of a unit that starts at head `h` and query `m` stands for head `h + j / 128` and query
`m + j % 128`.
-/

@[expose] public section

noncomputable section

namespace Cert.Attn

open Idealize.ShloMosaic

/-- What a grid point works on: the codes of its seven query heads, of its key head and of its value head, the
    seven factors to the scores and the value scale. The codes are real numbers, the factors positive ones. -/
structure Block where
  Q : ℕ → ℕ → ℕ → EReal
  K : ℕ → ℕ → EReal
  V : ℕ → ℕ → EReal
  C : ℕ → EReal
  vs : EReal
  real_Q : ∀ h s d, ∃ r : ℝ, Q h s d = (r : EReal)
  real_K : ∀ s d, ∃ r : ℝ, K s d = (r : EReal)
  pos_C : ∀ h, h < 7 → ∃ r : ℝ, 0 < r ∧ C h = (r : EReal)

/-- A table of `a` rows and `b` lanes. -/
abbrev Tab (a b : ℕ) (φ : FTy) := FVec Ideal ⟨2, ![a, b]⟩ φ

/-- The factor from the natural exponential to the power of two. -/
abbrev log2e : EReal := (((Real.log 2)⁻¹ : ℝ) : EReal)

namespace Block

variable (B : Block)

/-- The product of the codes of query `q` of head `h` and of key `t`. -/
def z (h q : ℕ) (t : Fin 896) : EReal := ∑ d : Fin 128, B.Q h q d.1 * B.K t.1 d.1

/-- The same with the keys after the query masked. -/
def S (h q : ℕ) (t : Fin 896) : EReal := if t.1 ≤ q then B.z h q t else ⊥

/-- The attention output of query `q` of head `h` at lane `d`. -/
def att (h q d : ℕ) : EReal := attend (B.z h q) (fun t => B.V t.1 d) (B.C h) B.vs q

/-- The largest magnitude of head `h`'s output over the queries below `N`. -/
def amaxTo (h N : ℕ) : EReal :=
  Finset.univ.sup fun p : Fin 896 × Fin 128 => if p.1.1 < N then mag (B.att h p.1.1 p.2.1) else ⊥

/-- A product of codes is a real number. -/
theorem real_z (h q : ℕ) (t : Fin 896) : ∃ r : ℝ, B.z h q t = (r : EReal) := by
  choose f hf using fun d : Fin 128 => B.real_Q h q d.1
  choose g hg using fun d : Fin 128 => B.real_K t.1 d.1
  refine ⟨∑ d, f d * g d, ?_⟩
  simp only [z, hf, hg, ← EReal.coe_mul, coe_sum]

end Block

variable (B : Block) (h m : ℕ) {n w : ℕ}

/-- The table holds the unit's query codes, a query per row. -/
def IsQ (X : Tab w 128 .fp8e4m3) : Prop :=
  ∀ j d, X (ix2 j d) = B.Q (h + j.1 / 128) (m + j.1 % 128) d.1
/-- The table holds the codes of the first `n` keys. -/
def IsK (n : ℕ) (X : Tab n 128 .fp8e4m3) : Prop := ∀ (s : Fin n) d, X (ix2 s d) = B.K s.1 d.1
/-- The table holds the codes of the first `n` values, a position per column. -/
def IsV (n : ℕ) (X : Tab 128 n .fp8e4m3) : Prop := ∀ (s : Fin n) d, X (ix2 d s) = B.V s.1 d.1
/-- The table holds the unit's products of codes. -/
def IsT (X : Tab n w .f32) : Prop :=
  ∀ x j (hx : x.1 < 896), X (ix2 x j) = B.z (h + j.1 / 128) (m + j.1 % 128) ⟨x.1, hx⟩
/-- The table adds the mask: nothing up to the query and negative infinity after it. -/
def IsBias (X : Tab 128 w .f32) : Prop := ∀ r j, X (ix2 r j) = if r.1 ≤ j.1 % 128 then 0 else ⊥
/-- The table holds the masked products of the last 128 keys. -/
def IsD (X : Tab 128 w .f32) : Prop :=
  ∀ r j (hx : m + r.1 < 896), X (ix2 r j) = B.S (h + j.1 / 128) (m + j.1 % 128) ⟨m + r.1, hx⟩
/-- The table holds all the masked products. -/
def IsS (X : FVec Ideal ⟨3, ![1, n, w]⟩ .f32) : Prop :=
  ∀ x j (hx : x.1 < 896), X (ix3 0 x j) = B.S (h + j.1 / 128) (m + j.1 % 128) ⟨x.1, hx⟩
/-- The row holds the largest masked products. -/
def IsM (n : ℕ) (X : Tab 1 w .f32) : Prop :=
  ∀ j (hn : n ≤ 896), X (ix2 0 j)
    = Finset.univ.sup fun x : Fin n => B.S (h + j.1 / 128) (m + j.1 % 128) (Fin.castLE hn x)
/-- The row holds the factors to the scores, for powers of two. -/
def IsC (X : Tab 1 w .f32) : Prop := ∀ j, X (ix2 0 j) = B.C (h + j.1 / 128) * log2e
/-- The table holds the outputs, a query per column. -/
def IsO (X : Tab 128 w .f32) : Prop :=
  ∀ d j, X (ix2 d j) = B.att (h + j.1 / 128) (m + j.1 % 128) d.1
/-- The row holds, at every lane, head `h`'s largest magnitude over the queries below `m`. -/
def IsAmax (X : FVec Ideal ⟨4, ![1, 1, 1, 128]⟩ .f32) : Prop := ∀ l, X (ix4 0 0 0 l) = B.amaxTo h m

variable {B h m}

/-! ## Layout -/

/-- A unit leading axis added to a list. -/
theorem cast_row {α : Type} (v : (⟨1, ![w]⟩ : Shape).Idx → α) (hc : (⟨1, ![w]⟩ : Shape).ShapeCasts ⟨2, ![1, w]⟩) (j : Fin w) :
    shapeCast ⟨2, ![1, w]⟩ v hc (ix2 0 j) = v (ix1 j) := by
  exact ValueIdx.shapeCast_a_1a_apply v hc 0 j

/-- A unit leading axis dropped from a table. -/
theorem cast_tab {α : Type} (v : (⟨3, ![1, n, w]⟩ : Shape).Idx → α) (hc : (⟨3, ![1, n, w]⟩ : Shape).ShapeCasts ⟨2, ![n, w]⟩)
    (x : Fin n) (j : Fin w) : shapeCast ⟨2, ![n, w]⟩ v hc (ix2 x j) = v (ix3 0 x j) := by
  exact ValueIdx.shapeCast_1ab_ab_apply v hc x j

/-- A unit leading axis added to a table. -/
theorem cast_tab' {α : Type} (v : (⟨2, ![n, w]⟩ : Shape).Idx → α) (hc : (⟨2, ![n, w]⟩ : Shape).ShapeCasts ⟨3, ![1, n, w]⟩)
    (x : Fin n) (j : Fin w) : shapeCast ⟨3, ![1, n, w]⟩ v hc (ix3 0 x j) = v (ix2 x j) := by
  exact ValueIdx.shapeCast_ab_1ab_apply v hc 0 x j

/-- A row repeated down a table. -/
theorem broadcast_row {φ : FTy} (v : Tab 1 w φ) (hb) (x : Fin n) (j : Fin w) :
    broadcastTo ⟨2, ![n, w]⟩ v hb (ix2 x j) = v (ix2 0 j) := by
  exact ValueIdx.broadcastTo_1b_ab_apply v hb x j

/-! ## Stage a -/

/-- Two heads' query codes, one above the other. -/
theorem isQ_two {q0 q1 : FVec Ideal ⟨3, ![1, 128, 128]⟩ .fp8e4m3} {h1 h2 h3}
    (e0 : ∀ r d, q0 (ix3 0 r d) = B.Q h (m + r.1) d.1) (e1 : ∀ r d, q1 (ix3 0 r d) = B.Q (h + 1) (m + r.1) d.1) :
    IsQ B h m (concatenate ⟨2, ![256, 128]⟩ 0 [⟨⟨2, ![128, 128]⟩, shapeCast ⟨2, ![128, 128]⟩ q0 h1⟩,
      ⟨⟨2, ![128, 128]⟩, shapeCast ⟨2, ![128, 128]⟩ q1 h2⟩] h3) := by
  intro j d
  pointwise
  split
  · next hj => rw [e0, Nat.div_eq_of_lt hj, Nat.mod_eq_of_lt hj]; rfl
  · next hj =>
    rw [e1, show j.1 / 128 = 1 by omega, show j.1 % 128 = j.1 - 128 by omega]

/-- One head's query codes. -/
theorem isQ_one {q0 : FVec Ideal ⟨3, ![1, 128, 128]⟩ .fp8e4m3} {h1}
    (e0 : ∀ r d, q0 (ix3 0 r d) = B.Q h (m + r.1) d.1) : IsQ B h m (shapeCast ⟨2, ![128, 128]⟩ q0 h1) := by
  intro j d
  pointwise
  rw [e0, Nat.div_eq_of_lt j.2, Nat.mod_eq_of_lt j.2]; rfl

/-- The first keys of a table of keys. -/
theorem isK_slice {K : Tab 896 128 .fp8e4m3} {hs} (hn : n ≤ 896) (hK : IsK B 896 K) :
    IsK B n (extractStridedSlice ⟨2, ![n, 128]⟩ ![0, 0] K hs) := by
  intro x d
  pointwise
  rw [hK]

/-- The first positions of a table of values. -/
theorem isV_slice {V : Tab 128 896 .fp8e4m3} {hs} (hn : n ≤ 896) (hV : IsV B 896 V) :
    IsV B n (extractStridedSlice ⟨2, ![128, n]⟩ ![0, 0] V hs) := by
  intro x d
  pointwise
  rw [hV]

/-- The products of the codes. -/
theorem isT_matmul {K : Tab n 128 .fp8e4m3} {Q : Tab w 128 .fp8e4m3} (hK : IsK B n K) (hQ : IsQ B h m Q) :
    IsT B h m (matmul (DotDims.transposedRhs n 128 w) none K Q (constant ⟨2, ![n, w]⟩ .f32 0x00000000#32)) := by
  intro x j hx
  pointwise
  exact Finset.sum_congr rfl fun d _ => by rw [hK, hQ, mul_comm]

/-- The products of the codes with the first keys only. -/
theorem isT_slice {T : Tab n w .f32} {n' : ℕ} {hs} (hT : IsT B h m T) :
    IsT B h m (extractStridedSlice ⟨2, ![n', w]⟩ ![0, 0] T hs) := by
  intro x j hx
  pointwise
  rw [hT _ _ (by exact hx)]

/-- The mask for two heads. -/
theorem isBias_two {b : Tab 128 128 .f32} {hc} (hb : IsBias b) :
    IsBias (concatenate ⟨2, ![128, 256]⟩ 1 [⟨⟨2, ![128, 128]⟩, b⟩, ⟨⟨2, ![128, 128]⟩, b⟩] hc) := by
  intro r j
  pointwise
  split
  · rw [hb]
  · next hj => rw [hb]; simp only [show (j.1 - 128) % 128 = j.1 % 128 by omega]

/-- The last 128 keys' products, masked. -/
theorem isD_next {T : Tab n w .f32} {β : Tab 128 w .f32} {hs} (hT : IsT B h m T) (hβ : IsBias β) :
    IsD B h m (addf (extractStridedSlice ⟨2, ![128, w]⟩ ![m, 0] T hs) β) := by
  intro r j hx
  pointwise
  rw [hT _ _ (by exact hx), hβ, Block.S]
  by_cases hr : r.1 ≤ j.1 % 128
  · rw [if_pos hr, if_pos (by simpa using hr), add_zero]
  · rw [if_neg hr, if_neg (by simpa using hr), EReal.add_bot]

/-- The first 128 keys' products, masked. -/
theorem isD_first {T : Tab 128 w .f32} {β : Tab 128 w .f32} (hT : IsT B h 0 T) (hβ : IsBias β) :
    IsD B h 0 (addf T β) := by
  intro r j hx
  pointwise
  rw [hT r j (by simpa using hx), hβ, Block.S]
  by_cases hr : r.1 ≤ j.1 % 128
  · rw [if_pos hr, if_pos (by simpa using hr), add_zero]; simp
  · rw [if_neg hr, if_neg (by simpa using hr), EReal.add_bot]

/-- The largest of each column of a table. -/
theorem max_col (D : Tab n w .f32) {hr h1 h2 hc} (j : Fin w) :
    shapeCast ⟨2, ![1, w]⟩ (multiReduction .maximumf [0] ⟨1, ![w]⟩ D 0xFF800000#32 hr h1 h2) hc (ix2 0 j)
      = Finset.univ.sup fun x => D (ix2 x j) := by
  rw [cast_row]
  pointwise
  rw [ofBits_neg_inf, fold_max_eq_sup]

/-- The largest masked products of a unit that sees 128 keys. -/
theorem isM_first {D : Tab 128 w .f32} {hr h1 h2 hc} (hD : IsD B h 0 D) :
    IsM B h 0 128 (shapeCast ⟨2, ![1, w]⟩ (multiReduction .maximumf [0] ⟨1, ![w]⟩ D 0xFF800000#32 hr h1 h2) hc) := by
  intro j hn
  rw [max_col]
  refine Finset.sup_congr rfl fun x _ => ?_
  rw [hD x j (by omega)]
  congr 1; apply Fin.ext; simp

/-- The largest masked products of a unit that sees `m` keys before its own 128. -/
theorem isM_next {D : Tab 128 w .f32} {T : Tab n w .f32} {hs hr h1 h2 hc hr' h1' h2' hc'}
    (hn : n = m + 128) (hD : IsD B h m D) (hT : IsT B h m T) :
    IsM B h m n (maximumf (shapeCast ⟨2, ![1, w]⟩ (multiReduction .maximumf [0] ⟨1, ![w]⟩ D 0xFF800000#32 hr h1 h2) hc)
      (shapeCast ⟨2, ![1, w]⟩ (multiReduction .maximumf [0] ⟨1, ![w]⟩
        (extractStridedSlice ⟨2, ![m, w]⟩ ![0, 0] T hs) 0xFF800000#32 hr' h1' h2') hc')) := by
  intro j hn'
  rw [maximumf_apply, max_col, max_col]
  subst hn
  apply le_antisymm
  · refine sup_le (Finset.sup_le fun x _ => ?_) (Finset.sup_le fun x _ => ?_)
    · rw [hD x j (by omega)]
      exact Finset.le_sup (f := fun x : Fin (m + 128) => B.S (h + j.1 / 128) (m + j.1 % 128) (Fin.castLE hn' x))
        (Finset.mem_univ (⟨m + x.1, by omega⟩ : Fin (m + 128)))
    · pointwise
      rw [hT _ j (by show x.1 < 896; omega)]
      refine le_trans (le_of_eq ?_) (Finset.le_sup (f := fun x : Fin (m + 128) => B.S (h + j.1 / 128) (m + j.1 % 128) (Fin.castLE hn' x))
        (Finset.mem_univ (⟨x.1, by omega⟩ : Fin (m + 128))))
      rw [Block.S, if_pos (by show x.1 ≤ _; omega)]; rfl
  · refine Finset.sup_le fun x _ => ?_
    by_cases hx : x.1 < m
    · refine le_trans ?_ le_sup_right
      refine le_trans (le_of_eq ?_) (Finset.le_sup (Finset.mem_univ (⟨x.1, hx⟩ : Fin m)))
      pointwise
      rw [hT _ j (by show x.1 < 896; omega), Block.S, if_pos (by show x.1 ≤ _; omega)]; rfl
    · refine le_trans ?_ le_sup_left
      refine le_trans (le_of_eq ?_) (Finset.le_sup (Finset.mem_univ (⟨x.1 - m, by omega⟩ : Fin 128)))
      rw [hD _ j (by show m + (x.1 - m) < 896; omega)]
      congr 1; apply Fin.ext; show x.1 = m + (x.1 - m); omega

/-! ## Stage b -/

/-- One head's factor. -/
theorem isC_one {c : EReal} (hc : c = B.C h * log2e) : IsC (w := 128) B h (broadcast ⟨2, ![1, 128]⟩ c) := by
  intro j
  rw [Nat.div_eq_of_lt j.2]
  simp [broadcast, hc]

/-- Two heads' factors, side by side. -/
theorem isC_two {X Y : Tab 1 128 .f32} {hc} (hX : IsC B h X) (hY : IsC B (h + 1) Y) :
    IsC B h (concatenate ⟨2, ![1, 256]⟩ 1 [⟨⟨2, ![1, 128]⟩, X⟩, ⟨⟨2, ![1, 128]⟩, Y⟩] hc) := by
  intro j
  pointwise
  split
  · next hj => rw [hX]
  · next hj => rw [hY]; rw [show (j.1 - 128) / 128 = 0 by omega, show j.1 / 128 = 1 by omega]

/-- The products of the value codes and a table of weights. -/
theorem matmul_plain_apply (V : Tab 128 n .fp8e4m3) (P : Tab n w .fp8e4m3) (d : Fin 128) (j : Fin w) :
    matmul (DotDims.plain 128 n w) none V P
      (constant ⟨2, ![128, w]⟩ .f32 0x00000000#32) (ix2 d j) = ∑ x : Fin n, V (ix2 d x) * P (ix2 x j) := by
  rw [matmul, Ideal.matmul_def, Ideal.matmul_apply₁ _ rfl rfl]
  rw [show (constant ⟨2, ![128, w]⟩ .f32 0x00000000#32 : Tab 128 w .f32) (ix2 d j) = 0 from Ideal.ofBits_zero_f32, zero_add]
  refine Finset.sum_congr rfl fun x _ => ?_
  congr 1
  · refine congrArg V (funext fun a => Fin.ext ?_)
    match a with
    | ⟨0, _⟩ => rfl
    | ⟨1, _⟩ => rfl
  · refine congrArg P (funext fun a => Fin.ext ?_)
    match a with
    | ⟨0, _⟩ => rfl
    | ⟨1, _⟩ => rfl

/-- The outputs, from the masked products, their largest, and the factors. -/
theorem isO_mulf {S : FVec Ideal ⟨3, ![1, n, w]⟩ .f32} {Mx C : Tab 1 w .f32} {V : Tab 128 n .fp8e4m3} {vs : EReal}
    {h2 h3 h4 h5 h6 h7 h8 h9 h10} (hw : w ≤ 256) (hn : n = m + 128) (hn' : n ≤ 896) (hh : h + (w - 1) / 128 < 7)
    (hV : IsV B n V) (hvs : vs = B.vs) (hM : IsM B h m n Mx) (hC : IsC B h C) (hS : IsS B h m S) :
    IsO B h m (mulf (matmul (DotDims.plain 128 n w) none V
        (truncf .fp8e4m3 (exp2 (mulf (subf (shapeCast ⟨2, ![n, w]⟩ S h2) (broadcastTo ⟨2, ![n, w]⟩ Mx h3))
          (broadcastTo ⟨2, ![n, w]⟩ C h4))) h5) (constant ⟨2, ![128, w]⟩ .f32 0x00000000#32))
      (broadcastTo ⟨2, ![128, w]⟩ (divf (broadcast ⟨2, ![1, w]⟩ vs) (shapeCast ⟨2, ![1, w]⟩
        (multiReduction .add [0] ⟨1, ![w]⟩ (exp2 (mulf (subf (shapeCast ⟨2, ![n, w]⟩ S h2) (broadcastTo ⟨2, ![n, w]⟩ Mx h3))
          (broadcastTo ⟨2, ![n, w]⟩ C h4))) 0x00000000#32 h6 h7 h8) h9)) h10)) := by
  intro d j
  have hx (x : Fin n) : exp2 (mulf (subf (shapeCast ⟨2, ![n, w]⟩ S h2) (broadcastTo ⟨2, ![n, w]⟩ Mx h3))
      (broadcastTo ⟨2, ![n, w]⟩ C h4)) (ix2 x j)
      = Ideal.exp2 ((B.S (h + j.1 / 128) (m + j.1 % 128) (Fin.castLE hn' x)
        - Finset.univ.sup fun x : Fin n => B.S (h + j.1 / 128) (m + j.1 % 128) (Fin.castLE hn' x))
        * (B.C (h + j.1 / 128) * log2e)) := by
    rw [exp2_apply, mulf_apply, subf_apply, cast_tab, broadcast_row, broadcast_row, hS _ _ (by omega), hM _ hn', hC]
    rfl
  rw [mulf_apply, matmul_plain_apply V _ d j, broadcast_row, divf_apply, cast_row]
  have hsum : multiReduction .add [0] ⟨1, ![w]⟩ (exp2 (mulf (subf (shapeCast ⟨2, ![n, w]⟩ S h2) (broadcastTo ⟨2, ![n, w]⟩ Mx h3))
      (broadcastTo ⟨2, ![n, w]⟩ C h4))) 0x00000000#32 h6 h7 h8 (ix1 j)
      = ∑ x : Fin n, exp2 (mulf (subf (shapeCast ⟨2, ![n, w]⟩ S h2) (broadcastTo ⟨2, ![n, w]⟩ Mx h3))
      (broadcastTo ⟨2, ![n, w]⟩ C h4)) (ix2 x j) := by
    generalize exp2 (mulf (subf (shapeCast ⟨2, ![n, w]⟩ S h2) (broadcastTo ⟨2, ![n, w]⟩ Mx h3))
      (broadcastTo ⟨2, ![n, w]⟩ C h4)) = P
    pointwise
  rw [hsum]
  simp only [truncf_apply, hx]
  have := attend_eq hn' (B.z (h + j.1 / 128) (m + j.1 % 128)) (B.real_z _ _) (B.C (h + j.1 / 128))
    (B.pos_C _ (by omega)) (m + j.1 % 128) (by omega) (fun t => B.V t.1 d.1) B.vs
    (fun x => B.S (h + j.1 / 128) (m + j.1 % 128) (Fin.castLE hn' x)) (fun s => rfl) _ rfl
  rw [Block.att, ← this]
  subst hvs
  simp only [hV _ _]
  rfl

/-- The left head of a unit of two. -/
theorem isO_left {O : Tab 128 256 .f32} {hs} (hO : IsO B h m O) :
    IsO B h m (extractStridedSlice ⟨2, ![128, 128]⟩ ![0, 0] O hs) := by
  intro d j
  pointwise
  rw [hO]

/-- The right head of a unit of two. -/
theorem isO_right {O : Tab 128 256 .f32} {hs} (hO : IsO B h m O) :
    IsO B (h + 1) m (extractStridedSlice ⟨2, ![128, 128]⟩ ![0, 128] O hs) := by
  intro d j
  pointwise
  rw [hO]
  simp only [show (128 + j.1) / 128 = 1 by omega, show (128 + j.1) % 128 = j.1 % 128 by omega, Nat.div_eq_of_lt j.2,
    Nat.add_zero]

/-- What is stored of a head's outputs: a query per row. -/
theorem out_apply {O : Tab 128 128 .f32} {h1 h2 h3} (hO : IsO B h m O) (r d : Fin 128) :
    shapeCast ⟨3, ![1, 128, 128]⟩ (transpose ⟨2, ![128, 128]⟩ [1, 0] (truncf .bf16 O h1) h2) h3 (ix3 0 r d)
      = B.att h (m + r.1) d.1 := by
  pointwise
  rw [hO, Nat.div_eq_of_lt r.2, Nat.mod_eq_of_lt r.2]; rfl

/-- The largest magnitude of a table, laid at every lane. -/
theorem col_max (A : Tab 128 128 .f32) {h1 h2 h3 h4 h5 h6 h7 h8 h9 h10} (l : Fin 128) :
    broadcastTo ⟨2, ![1, 128]⟩ (shapeCast ⟨2, ![1, 1]⟩ (shapeCast ⟨2, ![1, 1]⟩ (multiReduction .maximumf [1] ⟨1, ![1]⟩
        (shapeCast ⟨2, ![1, 128]⟩ (multiReduction .maximumf [0] ⟨1, ![128]⟩ (absf A) 0xFF800000#32 h1 h2 h3) h4)
        0xFF800000#32 h5 h6 h7) h8) h9) h10 (ix2 0 l)
      = Finset.univ.sup fun p : Fin 128 × Fin 128 => mag (A (ix2 p.1 p.2)) := by
  pointwise
  simp only [ofBits_neg_inf, fold_max_eq_sup]
  rw [← Finset.univ_product_univ, Finset.sup_product_right]
  rfl

/-- An entry is at most the largest. -/
theorem le_sup_all {ι : Type} [Fintype ι] (f : ι → EReal) (i : ι) : f i ≤ Finset.univ.sup f :=
  Finset.le_sup (Finset.mem_univ i)

/-- Equal entries have equal largest entries. -/
theorem sup_ext {ι : Type} [Fintype ι] {f g : ι → EReal} (hfg : ∀ i, f i = g i) : Finset.univ.sup f = Finset.univ.sup g := by
  rw [funext hfg]

/-- Unit axes added to a row. -/
theorem cast_four {α : Type} (X : (⟨2, ![1, 128]⟩ : Shape).Idx → α) (hc) (l : Fin 128) :
    shapeCast ⟨4, ![1, 1, 1, 128]⟩ X hc (ix4 0 0 0 l) = X (ix2 0 l) := by
  pointwise

/-- Unit axes dropped from a row. -/
theorem cast_four' {α : Type} (X : (⟨4, ![1, 1, 1, 128]⟩ : Shape).Idx → α) (hc) (l : Fin 128) :
    shapeCast ⟨2, ![1, 128]⟩ X hc (ix2 0 l) = X (ix4 0 0 0 l) := by
  pointwise

/-- The largest magnitude of the outputs of 128 queries, over those of the queries before. -/
theorem amaxTo_next (B : Block) {h m : ℕ} (hm : m + 128 ≤ 896) :
    B.amaxTo h (m + 128)
      = max (Finset.univ.sup fun p : Fin 128 × Fin 128 => mag (B.att h (m + p.2.1) p.1.1)) (B.amaxTo h m) := by
  obtain ⟨f, hf⟩ : ∃ f, (fun p : Fin 896 × Fin 128 => if p.1.1 < m then mag (B.att h p.1.1 p.2.1) else ⊥) = f := ⟨_, rfl⟩
  obtain ⟨g, hg⟩ : ∃ g, (fun p : Fin 896 × Fin 128 => if p.1.1 < m + 128 then mag (B.att h p.1.1 p.2.1) else ⊥) = g := ⟨_, rfl⟩
  obtain ⟨k, hk⟩ : ∃ k, (fun p : Fin 128 × Fin 128 => mag (B.att h (m + p.2.1) p.1.1)) = k := ⟨_, rfl⟩
  rw [show B.amaxTo h (m + 128) = Finset.univ.sup g by rw [← hg]; rfl,
    show B.amaxTo h m = Finset.univ.sup f by rw [← hf]; rfl, hk]
  apply le_antisymm
  · refine Finset.sup_le fun p _ => ?_
    by_cases hp : p.1.1 < m + 128
    · by_cases hp' : p.1.1 < m
      · refine le_max_of_le_right (le_trans (le_of_eq ?_) (le_sup_all f p))
        rw [← hf, ← hg]
        exact (if_pos hp).trans (if_pos hp').symm
      · refine le_max_of_le_left (le_trans (le_of_eq ?_)
          (le_sup_all k (p.2, (⟨p.1.1 - m, by omega⟩ : Fin 128))))
        rw [← hk, ← hg]
        show (if _ then _ else _) = mag (B.att h (m + (p.1.1 - m)) p.2.1)
        rw [show m + (p.1.1 - m) = p.1.1 by omega, if_pos hp]
    · rw [← hg]
      exact (le_of_eq (if_neg hp)).trans bot_le
  · refine max_le (Finset.sup_le fun p _ => ?_) (Finset.sup_le fun p _ => ?_)
    · refine le_trans (le_of_eq ?_) (le_sup_all g ((⟨m + p.2.1, by omega⟩ : Fin 896), p.1))
      rw [← hg, ← hk]
      have hlt : m + p.2.1 < m + 128 := by omega
      exact (if_pos hlt).symm
    · by_cases hp : p.1.1 < m
      · refine le_trans (le_of_eq ?_) (le_sup_all g p)
        rw [← hf, ← hg]
        have hp' : p.1.1 < m + 128 := by omega
        exact (if_pos hp).trans (if_pos hp').symm
      · rw [← hf]
        exact (le_of_eq (if_neg hp)).trans bot_le

/-- Nothing lies below query zero. -/
theorem amaxTo_zero (B : Block) {h : ℕ} : B.amaxTo h 0 = ⊥ := by
  simp [Block.amaxTo]

/-- The largest magnitude of the first 128 queries. -/
theorem isAmax_first {O : Tab 128 128 .f32} {h1 h2 h3 h4 h5 h6 h7 h8 h9 h10 h11} (hO : IsO B h 0 O) :
    IsAmax B h 128 (shapeCast ⟨4, ![1, 1, 1, 128]⟩ (broadcastTo ⟨2, ![1, 128]⟩ (shapeCast ⟨2, ![1, 1]⟩
      (shapeCast ⟨2, ![1, 1]⟩ (multiReduction .maximumf [1] ⟨1, ![1]⟩
        (shapeCast ⟨2, ![1, 128]⟩ (multiReduction .maximumf [0] ⟨1, ![128]⟩ (absf O) 0xFF800000#32 h1 h2 h3) h4)
        0xFF800000#32 h5 h6 h7) h8) h9) h10) h11) := by
  intro l
  rw [cast_four, col_max]
  · have := amaxTo_next B (h := h) (m := 0) (by omega)
    rw [Nat.zero_add, amaxTo_zero] at this
    rw [this, max_eq_left bot_le]
    refine sup_ext fun p => ?_
    rw [hO, Nat.div_eq_of_lt p.2.2, Nat.mod_eq_of_lt p.2.2]; rfl

/-- The largest magnitude of 128 more queries. -/
theorem isAmax_next {O : Tab 128 128 .f32} {P : FVec Ideal ⟨4, ![1, 1, 1, 128]⟩ .f32} {N : ℕ}
    {h1 h2 h3 h4 h5 h6 h7 h8 h9 h10 h11 h12} (hm : m + 128 ≤ 896) (hN : N = m + 128) (hO : IsO B h m O) (hP : IsAmax B h m P) :
    IsAmax B h N (shapeCast ⟨4, ![1, 1, 1, 128]⟩ (maximumf (broadcastTo ⟨2, ![1, 128]⟩ (shapeCast ⟨2, ![1, 1]⟩
      (shapeCast ⟨2, ![1, 1]⟩ (multiReduction .maximumf [1] ⟨1, ![1]⟩
        (shapeCast ⟨2, ![1, 128]⟩ (multiReduction .maximumf [0] ⟨1, ![128]⟩ (absf O) 0xFF800000#32 h1 h2 h3) h4)
        0xFF800000#32 h5 h6 h7) h8) h9) h10) (shapeCast ⟨2, ![1, 128]⟩ P h12)) h11) := by
  intro l
  subst hN
  rw [amaxTo_next B hm]
  rw [cast_four, maximumf_apply, col_max, cast_four', hP]
  congr 1
  refine sup_ext fun p => ?_
  rw [hO, Nat.div_eq_of_lt p.2.2, Nat.mod_eq_of_lt p.2.2]; rfl

/-! ## Reading the masked products back -/

section Load

/-- A box of the scratch of masked products. -/
abbrev Box (o m n w : ℕ) (inb : ∀ a, (![o, m, 0] : Fin 3 → ℕ) a + (![1, n, w] : Fin 3 → ℕ) a ≤ (![3, 896, 256] : Fin 3 → ℕ) a) :
    Rect ⟨3, ![3, 896, 256]⟩ := Rect.unit ![o, m, 0] ![1, n, w] inb

variable {sig : RefSig} {κ : Kind} {sp : Space} (v : View sig κ sp ⟨3, ![3, 896, 256]⟩ .f32)

/-- A load of what the last store wrote whole. -/
theorem isS_first {D : Tab 128 w .f32} {o inb inb' hc L} (hD : IsD B h 0 D) :
    IsS (n := 128) B h 0 (v.readCov (Val := Elt Ideal) (⟨Box o 0 128 w inb, shapeCast ⟨3, ![1, 128, w]⟩ D hc⟩ :: L)
      (Box o 0 128 w inb').toLoadRect) := by
  intro x j hx
  rw [View.readCov_cons_toLoadRect]
  rw [cast_tab', hD x j (by omega)]
  congr 1; apply Fin.ext; exact Nat.zero_add _

/-- A load of what the last two stores wrote, the last 128 rows and the rows before them. -/
theorem isS_next {D : Tab 128 w .f32} {T : Tab m w .f32} {N o inb inb0 inb' hc hc' L} (hN : N = m + 128)
    (hD : IsD B h m D) (hT : IsT B h m T) :
    IsS (n := N) B h m (v.readCov (Val := Elt Ideal) (⟨Box o m 128 w inb, shapeCast ⟨3, ![1, 128, w]⟩ D hc⟩ ::
        ⟨Box o 0 m w inb0, shapeCast ⟨3, ![1, m, w]⟩ T hc'⟩ :: L)
      (Box o 0 N w inb').toLoadRect) := by
  intro x j hx
  subst hN
  rw [View.readCov_eq_canon']
  beta_reduce
  by_cases hxm : x.1 < m
  · rw [View.canon_cons_of_not_mem]
    · rw [show (Box o 0 (m + 128) w inb').toLoadRect.idx (ix3 0 x j) = (Box o 0 m w inb0).emb (ix3 0 ⟨x.1, hxm⟩ j) from
          funext fun a => by match a with
          | ⟨0, _⟩ => rfl
          | ⟨1, _⟩ => rfl
          | ⟨2, _⟩ => rfl,
        View.canon_cons_emb, cast_tab']
      rw [hT _ _ (by exact hx), Block.S, if_pos (by show x.1 ≤ _; omega)]
    · intro hy
      have h1 := (Rect.mem_set_unit (inb := inb)).mp hy (1 : Fin 3)
      have : m ≤ 0 + 1 * x.1 := h1.1
      omega
  · have e : (Box o 0 (m + 128) w inb').toLoadRect.idx (ix3 0 x j)
        = (Box o m 128 w inb).emb (ix3 0 ⟨x.1 - m, by omega⟩ j) := by
      refine funext fun a => Fin.ext ?_
      match a with
      | ⟨0, _⟩ => rfl
      | ⟨1, _⟩ => show 0 + 1 * x.1 = m + 1 * (x.1 - m); omega
      | ⟨2, _⟩ => rfl
    rw [e, View.canon_cons_emb, cast_tab', hD _ _ (by show m + (x.1 - m) < 896; omega)]
    congr 1; apply Fin.ext; show m + (x.1 - m) = x.1; omega

/-- A load clear of the last store. -/
theorem isS_skip {r W L o inb} (hL : IsS (n := n) (w := w) B h m (v.readCov (Val := Elt Ideal) L
      (Box o 0 n w inb).toLoadRect))
    (hr : LoadRect.disj r (Box o 0 n w inb).toLoadRect = true) :
    IsS (n := n) (w := w) B h m (v.readCov (Val := Elt Ideal) (⟨r, W⟩ :: L) (Box o 0 n w inb).toLoadRect) := by
  rw [View.readCov_skip _ _ _ _ _ hr]; exact hL

end Load

/-! ## The blocks the stores leave -/

/-- The outputs: seven heads side by side. -/
def outB (B : Block) : (⟨3, ![1, 896, 896]⟩ : Shape).Idx → EReal :=
  fun y => B.att ((y 2).1 / 128) (y 1).1 ((y 2).1 % 128)
/-- The query codes: seven heads side by side. -/
def qcB (B : Block) : (⟨3, ![1, 896, 896]⟩ : Shape).Idx → EReal :=
  fun y => B.Q ((y 2).1 / 128) (y 1).1 ((y 2).1 % 128)
/-- The largest magnitudes of the outputs, a head per row. -/
def oamB (B : Block) : (⟨4, ![1, 1, 7, 128]⟩ : Shape).Idx → EReal := fun y => B.amaxTo (y 2).1 896

/-- A list of stores of blocks, store by store. -/
theorem piecesOf_cons {s : Shape} {e : EltTy} {G : s.Idx → Elt Ideal e} {r : Rect s} {W : r.shape.Idx → Elt Ideal e}
    {L : List (View.Piece (Elt Ideal) s e)} (h2 : View.PiecesOf G L) (h1 : ∀ x, W x = G (r.emb x)) :
    View.PiecesOf G (⟨r, W⟩ :: L) := ⟨h1, h2⟩

/-- A store of 128 queries of one head. -/
theorem out_piece {O : Tab 128 128 .f32} {h1 h2 h3} {l : ℕ} {inb} (hl : l = 128 * h) (hO : IsO B h m O) :
    ∀ x, shapeCast ⟨3, ![1, 128, 128]⟩ (transpose ⟨2, ![128, 128]⟩ [1, 0] (truncf .bf16 O h1) h2) h3 x
      = outB B ((Rect.unit (s := ⟨3, ![1, 896, 896]⟩) ![0, m, l] ![1, 128, 128] inb).emb x) := by
  intro x
  have e : x = ix3 0 (x 1) (x 2) := by
    funext a
    match a with
    | ⟨0, _⟩ => exact Subsingleton.elim (α := Fin 1) _ _
    | ⟨1, _⟩ => rfl
    | ⟨2, _⟩ => rfl
  rw [e]
  refine (out_apply hO (x 1) (x 2)).trans ?_
  have h2 : (x 2).1 < 128 := (x 2).2
  show _ = B.att ((l + 1 * (x 2).1) / 128) (m + 1 * (x 1).1) ((l + 1 * (x 2).1) % 128)
  rw [show (l + 1 * (x 2).1) / 128 = h by omega, show (l + 1 * (x 2).1) % 128 = (x 2).1 by omega, Nat.one_mul]

/-- A load of 128 queries' codes of one head. -/
theorem query_load {sig : RefSig} {κ : Kind} {sp : Space} {v : View sig κ sp ⟨3, ![1, 896, 896]⟩ .fp8e4m3}
    {L : List (View.Piece (Elt Ideal) ⟨3, ![1, 896, 896]⟩ .fp8e4m3)} (hL : ∀ y, View.canon L y = qcB B y) {l : ℕ} {inb}
    (hl : l = 128 * h) (r d : Fin 128) :
    v.readCov L (Rect.unit (s := ⟨3, ![1, 896, 896]⟩) ![0, m, l] ![1, 128, 128] inb).toLoadRect (ix3 0 r d)
      = B.Q h (m + r.1) d.1 := by
  rw [View.readCov_eq_canon']
  refine (hL _).trans ?_
  show B.Q ((l + 1 * d.1) / 128) (m + 1 * r.1) ((l + 1 * d.1) % 128) = _
  rw [show (l + 1 * d.1) / 128 = h by omega, show (l + 1 * d.1) % 128 = d.1 by omega, Nat.one_mul]

/-- A store of one head's largest magnitude. -/
theorem oam_piece {inb} {P : FVec Ideal ⟨4, ![1, 1, 1, 128]⟩ .f32} (hP : IsAmax B h 896 P) :
    ∀ x, P x = oamB B ((Rect.unit (s := ⟨4, ![1, 1, 7, 128]⟩) ![0, 0, h, 0] ![1, 1, 1, 128] inb).emb x) := by
  intro x
  have e : x = ix4 0 0 0 (x 3) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  rw [e]
  exact hP (x 3)

/-- A load of the last stored largest magnitude. -/
theorem amax_load {sig : RefSig} {κ : Kind} {sp : Space} {v : View sig κ sp ⟨4, ![1, 1, 7, 128]⟩ .f32} {o : Fin 4 → ℕ} {inb inb' L}
    {P : FVec Ideal ⟨4, ![1, 1, 1, 128]⟩ .f32} (hP : IsAmax B h m P) :
    IsAmax B h m (v.readCov (Val := Elt Ideal) (⟨Rect.unit (s := ⟨4, ![1, 1, 7, 128]⟩) o ![1, 1, 1, 128] inb, P⟩ :: L)
      (Rect.unit (s := ⟨4, ![1, 1, 7, 128]⟩) o ![1, 1, 1, 128] inb').toLoadRect) := by
  rw [View.readCov_cons_toLoadRect]; exact hP

/-- A load of a largest magnitude clear of the last store. -/
theorem amax_skip {sig : RefSig} {κ : Kind} {sp : Space} {v : View sig κ sp ⟨4, ![1, 1, 7, 128]⟩ .f32} {o : Fin 4 → ℕ} {inb r W L}
    (hL : IsAmax B h m (v.readCov (Val := Elt Ideal) L
      (Rect.unit (s := ⟨4, ![1, 1, 7, 128]⟩) o ![1, 1, 1, 128] inb).toLoadRect))
    (hr : LoadRect.disj r (Rect.unit (s := ⟨4, ![1, 1, 7, 128]⟩) o ![1, 1, 1, 128] inb).toLoadRect = true) :
    IsAmax B h m (v.readCov (Val := Elt Ideal) (⟨r, W⟩ :: L)
      (Rect.unit (s := ⟨4, ![1, 1, 7, 128]⟩) o ![1, 1, 1, 128] inb).toLoadRect) := by
  rw [View.readCov_skip _ _ _ _ _ hr]; exact hL

end Cert.Attn
-- ==== Proof.Codes.lean ====
module

public import proofs.«01_k».proof.Proof.Gen.KernelIdeal.Skeleton
public import proofs.«01_k».proof.Proof.Unit
public import Idealize.ShloMosaic.Lib.WholeRead

/-!
# The codes and the largest magnitudes of a block

What the kernel stores of a block besides the attention output: the codes of its queries, keys and values, and the
largest magnitudes of the queries, keys and values themselves.
-/

@[expose] public section

noncomputable section

namespace Cert.KernelIdeal.Val

open Cert.KernelIdeal Cert.KernelIdeal.Gen Idealize.ShloMosaic Cert.Attn

/-- The elements of a table of 896 positions times a reciprocal scale, clipped. -/
abbrev quantized (X : FVec Ideal S896x128 .bf16) (r : Ideal .f32) : FVec Ideal S896x128 .bf16 :=
  minimumf (broadcast S896x128 (Scalar.truncf .bf16 bitsLt_bf16_f32 (Scalar.ofBits .f32 0x43E00000#32)))
    (maximumf (broadcast S896x128 (Scalar.truncf .bf16 bitsLt_bf16_f32 (Scalar.ofBits .f32 0xC3E00000#32)))
      (mulf X (broadcastTo S896x128 (truncf .bf16 (broadcast S1x1 r : FVec Ideal S1x1 .f32) bitsLt_bf16_f32)
        broadcasts_S1x1_S896x128)))

/-- Each is the element's code. -/
theorem quantized_apply (X : FVec Ideal S896x128 .bf16) (r : Ideal .f32) (s : Fin 896) (d : Fin 128) :
    quantized X r (ix2 s d) = clipped (X (ix2 s d)) r := by
  pointwise
  rfl

/-- The largest magnitude of a table of 896 positions, at every lane. -/
abbrev amaxed (A : FVec Ideal S896x128 .bf16) : FVec Ideal S1x1x1x128 .f32 :=
  shapeCast S1x1x1x128 (broadcastTo S1x128 (shapeCast S1x1 (shapeCast S1x1
      (multiReduction .maximumf [1] S1 (extf .f32
        (shapeCast S1x128 (multiReduction .maximumf [0] S128 (absf A) 0xFF80#16 reduces_S896x128_S128 (.inr rfl) rfl)
          shapeCasts_S128_S1x128) bitsLt_bf16_f32)
        0xFF800000#32 reduces_S1x128_S1 (.inl rfl) rfl) shapeCasts_S1_S1x1) shapeCasts_S1x1_S1x1)
      broadcasts_S1x1_S1x128) shapeCasts_S1x128_S1x1x1x128

/-- It is the table's largest magnitude. -/
theorem amaxed_apply (A : FVec Ideal S896x128 .bf16) (l : Fin 128) :
    amaxed A (ix4 0 0 0 l) = amax fun s d => A (ix2 s d) := by
  refine (cast_four _ _ _).trans ?_
  pointwise
  simp only [ofBits_neg_inf, ofBits_neg_inf16, fold_max_eq_sup]
  unfold amax
  rw [← Finset.univ_product_univ, Finset.sup_product_right]
  rfl

/-- An index of a row of lanes under three unit axes. -/
theorem row_ext (x : (⟨4, ![1, 1, 1, 128]⟩ : Shape).Idx) : x = ix4 0 0 0 (x 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- An index of a table under two unit axes. -/
theorem tab_ext (x : (⟨4, ![1, 1, 896, 128]⟩ : Shape).Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-! ## Keys and values -/

section Heads

variable {sig : RefSig} {m : Memref sig .tc .vmem S1x1x896x128 .bf16} (hm : m.IsWhole) (X : Vec Ideal S1x1x896x128 .bf16)

/-- Two unit axes dropped from a table. -/
theorem cast_head {α : Type} (Y : (⟨4, ![1, 1, 896, 128]⟩ : Shape).Idx → α) (h) (s : Fin 896) (d : Fin 128) :
    shapeCast ⟨2, ![896, 128]⟩ Y h (ix2 s d) = Y (ix4 0 0 s d) := by
  pointwise

/-- A load of a whole head. -/
theorem head_load {inb h} (s : Fin 896) (d : Fin 128) :
    shapeCast ⟨2, ![896, 128]⟩ (View.readAt (Elt Ideal) m.view
      (Rect.unit (s := S1x1x896x128) ![0, 0, 0, 0] S1x1x896x128.size inb).toLoadRect (hm.unread X)) h (ix2 s d)
      = X (ix4 0 0 s d) := by
  refine (cast_head _ _ _ _).trans ?_
  rw [hm.readAt_unread]
  congr 1
  funext a
  refine Fin.ext ?_
  match a with
  | ⟨0, _⟩ => rfl
  | ⟨1, _⟩ => rfl
  | ⟨2, _⟩ => exact (by omega : 0 + 1 * s.1 = s.1)
  | ⟨3, _⟩ => exact (by omega : 0 + 1 * d.1 = d.1)

/-- The stored codes of a head. -/
theorem head_piece {A : FVec Ideal S896x128 .bf16} {inb h1 h2} {r : EReal} {G : S1x1x896x128.Idx → EReal}
    (hG : ∀ s d, G (ix4 0 0 s d) = clipped (A (ix2 s d)) r) :
    ∀ x, shapeCast S1x1x896x128 (truncf (F := Ideal) .fp8e4m3 (quantized A r) h1) h2 x
      = G ((Rect.unit (s := S1x1x896x128) ![0, 0, 0, 0] S1x1x896x128.size inb).emb x) := by
  intro x
  rw [show (Rect.unit (s := S1x1x896x128) ![0, 0, 0, 0] S1x1x896x128.size inb).emb x = x from
    funext fun a => Fin.ext (by
      match a with
      | ⟨0, _⟩ => exact (by omega : 0 + 1 * (x 0).1 = (x 0).1)
      | ⟨1, _⟩ => exact (by omega : 0 + 1 * (x 1).1 = (x 1).1)
      | ⟨2, _⟩ => exact (by omega : 0 + 1 * (x 2).1 = (x 2).1)
      | ⟨3, _⟩ => exact (by omega : 0 + 1 * (x 3).1 = (x 3).1))]
  obtain ⟨s, d, rfl⟩ : ∃ s d, x = ix4 0 0 s d := ⟨_, _, tab_ext x⟩
  rw [hG]
  refine Eq.trans ?_ (quantized_apply A r s d)
  generalize quantized A r = Y
  pointwise

/-- The stored largest magnitude of a head. -/
theorem head_amax {A : FVec Ideal S896x128 .bf16} {inb} {G : S1x1x1x128.Idx → EReal}
    (hG : ∀ l, G (ix4 0 0 0 l) = amax fun s d => A (ix2 s d)) :
    ∀ x, amaxed A x = G ((Rect.unit (s := S1x1x1x128) ![0, 0, 0, 0] S1x1x1x128.size inb).emb x) := by
  intro x
  obtain ⟨l, rfl⟩ : ∃ l, x = ix4 0 0 0 l := ⟨_, row_ext x⟩
  rw [show (Rect.unit (s := S1x1x1x128) ![0, 0, 0, 0] S1x1x1x128.size inb).emb (ix4 0 0 0 l) = ix4 0 0 0 l from
    funext fun a => Fin.ext (by
      match a with
      | ⟨0, _⟩ => rfl
      | ⟨1, _⟩ => rfl
      | ⟨2, _⟩ => rfl
      | ⟨3, _⟩ => exact (by omega : 0 + 1 * l.1 = l.1))]
  rw [amaxed_apply, hG]

/-- The codes of the keys, as the products take them. -/
theorem isK_codes {B : Block} {A : FVec Ideal S896x128 .bf16} {h1} {r : EReal}
    (hA : ∀ (s : Fin 896) (d : Fin 128), B.K s.1 d.1 = clipped (A (ix2 s d)) r) :
    IsK B 896 (truncf (F := Ideal) .fp8e4m3 (quantized A r) h1) := by
  intro s d
  exact (quantized_apply A r s d).trans (hA s d).symm

/-- The codes of the values, as the products take them. -/
theorem isV_codes {B : Block} {A : FVec Ideal S896x128 .bf16} {h1 h2} {r : EReal}
    (hA : ∀ (s : Fin 896) (d : Fin 128), B.V s.1 d.1 = clipped (A (ix2 s d)) r) :
    IsV B 896 (truncf (F := Ideal) .fp8e4m3 (transpose S128x896 [1, 0] (quantized A r) h2) h1) := by
  intro s d
  refine Eq.trans ?_ ((quantized_apply A r s d).trans (hA s d).symm)
  generalize quantized A r = Y
  pointwise

end Heads

/-! ## Queries -/

section Queries

variable {sig : RefSig} {m : Memref sig .tc .vmem S1x896x896 .bf16} (hm : m.IsWhole) (X : Vec Ideal S1x896x896 .bf16)

/-- A load of one head's queries. -/
theorem group_load {k l : ℕ} {inb h} (hk : k < 7) (hl : l = 128 * k) (s : Fin 896) (d : Fin 128) :
    shapeCast ⟨2, ![896, 128]⟩ (View.readAt (Elt Ideal) m.view
      (Rect.unit (s := S1x896x896) ![0, 0, l] S1x896x128.size inb).toLoadRect (hm.unread X)) h (ix2 s d)
      = X (ix3 0 s ⟨k * 128 + d.1, by omega⟩) := by
  refine Eq.trans (cast_tab _ _ _ _) ?_
  rw [hm.readAt_unread]
  congr 1
  funext a
  refine Fin.ext ?_
  match a with
  | ⟨0, _⟩ => rfl
  | ⟨1, _⟩ => exact (by omega : 0 + 1 * s.1 = s.1)
  | ⟨2, _⟩ => show l + 1 * d.1 = k * 128 + d.1; omega

/-- The stored codes of one head's queries. -/
theorem group_piece {B : Block} {k l : ℕ} {A : FVec Ideal S896x128 .bf16} {inb h1 h2} {r : EReal} (hl : l = 128 * k)
    (hQ : ∀ (s : Fin 896) (d : Fin 128), B.Q k s.1 d.1 = clipped (A (ix2 s d)) r) :
    ∀ x, shapeCast S1x896x128 (truncf (F := Ideal) .fp8e4m3 (quantized A r) h1) h2 x
      = qcB B ((Rect.unit (s := S1x896x896) ![0, 0, l] S1x896x128.size inb).emb x) := by
  intro x
  obtain ⟨s, d, rfl⟩ : ∃ s d, x = ix3 0 s d := ⟨x 1, x 2, funext fun a => by
    match a with
    | ⟨0, _⟩ => exact Subsingleton.elim (α := Fin 1) _ _
    | ⟨1, _⟩ => rfl
    | ⟨2, _⟩ => rfl⟩
  have hd : d.1 < 128 := d.2
  have e1 : (l + 1 * d.1) / 128 = k := by omega
  have e2 : (l + 1 * d.1) % 128 = d.1 := by omega
  refine Eq.trans ?_ (show B.Q k s.1 d.1 = B.Q ((l + 1 * d.1) / 128) (0 + 1 * s.1) ((l + 1 * d.1) % 128) by
    rw [e1, e2, Nat.one_mul, Nat.zero_add])
  rw [hQ]
  exact (cast_tab' _ _ _ _).trans (quantized_apply _ _ _ _)

/-- The largest magnitudes of a block of queries, a head per row. -/
def qamB (y : S1x1x7x128.Idx) : EReal :=
  amax fun s d => X (ix3 0 s ⟨(y 2).1 * 128 + d.1, by have h : (y 2).1 < 7 := (y 2).2; omega⟩)

/-- The stored largest magnitude of one head's queries. -/
theorem group_amax {k : ℕ} {A : FVec Ideal S896x128 .bf16} {inb} (hk : k < 7)
    (hA : ∀ (s : Fin 896) (d : Fin 128), A (ix2 s d) = X (ix3 0 s ⟨k * 128 + d.1, by omega⟩)) :
    ∀ x, amaxed A x = qamB X ((Rect.unit (s := S1x1x7x128) ![0, 0, k, 0] S1x1x1x128.size inb).emb x) := by
  intro x
  obtain ⟨l', rfl⟩ : ∃ l, x = ix4 0 0 0 l := ⟨_, row_ext x⟩
  rw [amaxed_apply]
  unfold qamB
  congr 1
  funext s d
  exact hA s d

end Queries

/-! ## The mask -/

/-- The stored mask. -/
theorem isBias_mask : IsBias (w := 128) (k0_pay2 (F := Ideal)) := by
  intro r j
  pointwise [k0_pay2]
  have hr : r.1 < 128 := r.2
  have hj : j.1 < 128 := j.2
  rw [Nat.mod_eq_of_lt hj, ofBits_neg_inf]
  unfold Scalar.select
  refine (if_congr ?_ (by simp [Ideal.ofBits, Ideal.ieee]) rfl)
  rw [show (1 : BitVec 1) = 1#1 from rfl, IntOp.cmpi_sle, BitVec.toInt_eq_toNat_of_lt (by simp; omega),
    BitVec.toInt_eq_toNat_of_lt (by simp; omega)]
  simp only [BitVec.toNat_ofNat]
  omega

end Cert.KernelIdeal.Val
-- ==== Proof.Feeds.lean ====
module

public import proofs.«01_k».proof.Proof.Codes

/-!
# What a grid point reads

The block a grid point works on, in terms of what its loads read, and how the codes and the largest magnitudes of the
outputs, stored piece by piece, fill their blocks.
-/

@[expose] public section

noncomputable section

namespace Cert.KernelIdeal.Val

open Cert.KernelIdeal Cert.KernelIdeal.Gen Idealize.ShloMosaic Cert.Attn

/-- A factor times the constant that turns natural exponentials into powers of two. -/
theorem mulf_log2e {x y : EReal} (h : x = y) :
    Scalar.mulf (F := Ideal) (φ := .f32) x (Named.named κ "log2_e" 0x3FB8AA3B#32) = y * log2e := by
  rw [h, IdealRules.named_const.ideal_named_scalar κ "log2_e" _ log2e rfl]
  rfl

/-- The block is the one the loads read: the factors and the value scale are the scalars loaded, and the codes are
    those of the elements loaded under the reciprocal scales loaded. -/
structure Feeds (B : Block) (i : grid0.Coords)
    {arg2 : Memref sig .tc .smem S2x56 .f32} (harg2 : arg2.IsWhole)
    {arg3 : Memref sig .tc .smem S2x56 .f32} (harg3 : arg3.IsWhole)
    {arg4 : Memref sig .tc .smem S2x8 .f32} (harg4 : arg4.IsWhole)
    {arg5 : Memref sig .tc .smem S2x8 .f32} (harg5 : arg5.IsWhole)
    {arg6 : Memref sig .tc .smem S2x8 .f32} (harg6 : arg6.IsWhole)
    {arg7 : Memref sig .tc .vmem S1x896x896 .bf16} (harg7 : arg7.IsWhole)
    {arg8 : Memref sig .tc .vmem S1x1x896x128 .bf16} (harg8 : arg8.IsWhole)
    {arg9 : Memref sig .tc .vmem S1x1x896x128 .bf16} (harg9 : arg9.IsWhole)
    (x0 : Vec Ideal S2x56 .f32) (x1 : Vec Ideal S2x56 .f32) (x2 : Vec Ideal S2x8 .f32) (x3 : Vec Ideal S2x8 .f32) (x4 : Vec Ideal S2x8 .f32) (x5 : Vec Ideal S1x896x896 .bf16) (x6 : Vec Ideal S1x1x896x128 .bf16) (x7 : Vec Ideal S1x1x896x128 .bf16) : Prop where
  C : ∀ (k : ℕ) (inb : ∀ a, k0_off2 i (BitVec.ofNat 32 k) a + S1x1.size a ≤ S2x56.size a) (p : 0 < S1x1.numel), k < 7 →
    View.readAt (Elt Ideal) arg2.view (Rect.unit (s := S2x56) (k0_off2 i (BitVec.ofNat 32 k)) S1x1.size inb).toLoadRect
      (harg2.unread x0) (Shape.Idx.first p) = B.C k
  Q : ∀ (k : ℕ) (hk : k < 7) (inb : ∀ a, k0_off2 i (BitVec.ofNat 32 k) a + S1x1.size a ≤ S2x56.size a) (p : 0 < S1x1.numel)
      (s : Fin 896) (d : Fin 128), B.Q k s.1 d.1 = clipped (x5 (ix3 0 s ⟨k * 128 + d.1, by omega⟩))
    (View.readAt (Elt Ideal) arg3.view (Rect.unit (s := S2x56) (k0_off2 i (BitVec.ofNat 32 k)) S1x1.size inb).toLoadRect
      (harg3.unread x1) (Shape.Idx.first p))
  K : ∀ (inb : ∀ a, k0_off1 i a + S1x1.size a ≤ S2x8.size a) (p : 0 < S1x1.numel)
      (s : Fin 896) (d : Fin 128), B.K s.1 d.1 = clipped (x6 (ix4 0 0 s d))
    (View.readAt (Elt Ideal) arg4.view (Rect.unit (s := S2x8) (k0_off1 i) S1x1.size inb).toLoadRect
      (harg4.unread x2) (Shape.Idx.first p))
  V : ∀ (inb : ∀ a, k0_off1 i a + S1x1.size a ≤ S2x8.size a) (p : 0 < S1x1.numel)
      (s : Fin 896) (d : Fin 128), B.V s.1 d.1 = clipped (x7 (ix4 0 0 s d))
    (View.readAt (Elt Ideal) arg5.view (Rect.unit (s := S2x8) (k0_off1 i) S1x1.size inb).toLoadRect
      (harg5.unread x3) (Shape.Idx.first p))
  vs : ∀ (inb : ∀ a, k0_off1 i a + S1x1.size a ≤ S2x8.size a) (p : 0 < S1x1.numel),
    View.readAt (Elt Ideal) arg6.view (Rect.unit (s := S2x8) (k0_off1 i) S1x1.size inb).toLoadRect
      (harg6.unread x4) (Shape.Idx.first p) = B.vs

/-- The codes of a block of keys. -/
def kcB (B : Block) (y : S1x1x896x128.Idx) : EReal := B.K (y 2).1 (y 3).1
/-- The codes of a block of values. -/
def vcB (B : Block) (y : S1x1x896x128.Idx) : EReal := B.V (y 2).1 (y 3).1
/-- The largest magnitude of a block of keys or values, at every lane. -/
def hamB (X : Vec Ideal S1x1x896x128 .bf16) (_ : S1x1x1x128.Idx) : EReal := amax fun s d => X (ix4 0 0 s d)

/-- The stores leave the largest magnitudes of the first `k` heads' outputs. -/
def Rows (B : Block) (k : ℕ) (L : List (View.Piece (Elt Ideal) S1x1x7x128 .f32)) : Prop :=
  ∀ y : S1x1x7x128.Idx, (y 2).1 < k → View.canon L y = oamB B y

/-- They leave nothing of no heads. -/
theorem rows_zero (B : Block) (L : List (View.Piece (Elt Ideal) S1x1x7x128 .f32)) : Rows B 0 L :=
  fun _ h => absurd h (Nat.not_lt_zero _)

/-- One more store, of the next head's. -/
theorem rows_next {B : Block} {k k' : ℕ} {L : List (View.Piece (Elt Ideal) S1x1x7x128 .f32)} {inb} {P : Vec Ideal S1x1x1x128 .f32}
    (hk : k' = k + 1) (hL : Rows B k L) (hP : IsAmax B k 896 P) :
    Rows B k' (⟨Rect.unit (s := S1x1x7x128) ![0, 0, k, 0] S1x1x1x128.size inb, P⟩ :: L) := by
  intro y hy
  by_cases h : (y 2).1 = k
  · rw [show y = (Rect.unit (s := S1x1x7x128) ![0, 0, k, 0] S1x1x1x128.size inb).emb (ix4 0 0 0 (y 3)) from
      funext fun a => by
        match a with
        | ⟨0, _⟩ => exact Subsingleton.elim (α := Fin 1) _ _
        | ⟨1, _⟩ => exact Subsingleton.elim (α := Fin 1) _ _
        | ⟨2, _⟩ => exact Fin.ext (by simpa using h)
        | ⟨3, _⟩ => exact Fin.ext (by omega : (y 3).1 = 0 + 1 * (y 3).1)]
    rw [View.canon_cons_emb]
    exact oam_piece hP _
  · rw [View.canon_cons_of_not_mem]
    · exact hL y (by omega)
    · intro hm
      have h1 := (Rect.mem_set_unit (inb := inb)).mp hm (2 : Fin 4)
      have h2 : k ≤ (y 2).1 := h1.1
      have h3 : (y 2).1 < k + 1 := h1.2
      omega

/-- A load of the stored mask. -/
theorem isBias_load {m : Memref sig .tc .vmem S128x128 .f32} (hm : m.IsWhole) {X : Vec Ideal S128x128 .f32} {inb}
    (hX : IsBias (w := 128) X) :
    IsBias (w := 128) (View.readAt (Elt Ideal) m.view (Rect.unit ![0, 0] S128x128.size inb).toLoadRect (hm.unread X)) := by
  intro r j
  rw [hm.readAt_unread]
  refine Eq.trans ?_ (hX r j)
  congr 1
  funext a
  refine Fin.ext ?_
  match a with
  | ⟨0, _⟩ => exact (by omega : 0 + 1 * r.1 = r.1)
  | ⟨1, _⟩ => exact (by omega : 0 + 1 * j.1 = j.1)

end Cert.KernelIdeal.Val
-- ==== Proof.Inputs.lean ====
module

public import proofs.«01_k».proof.Proof.Gen.KernelIdeal.Frame.Runs
public import proofs.«01_k».proof.Proof.Feeds
public import Idealize.ShloMosaic.Lib.Pipeline.ValueKit
public import Idealize.ShloMosaic.Lib.Pointwise.IndexVar

/-!
# The blocks of the inputs

What each grid point's input blocks hold, in terms of the arguments: the host computes the factors and the reciprocal
scales, and puts the key and value heads first.
-/

@[expose] public section

noncomputable section

namespace Cert.KernelIdeal.Val

open Cert.KernelIdeal Cert.KernelIdeal.Gen Idealize.ShloMosaic Idealize.ShloMosaic.Pipeline Cert.Attn

variable (m : (ℓ : Loc nD τ sig) → Buf (Elt Ideal) ℓ) (c : Dev nD)

/-- The queries. -/
abbrev argX : Queries := m ((c.tc : Thread nD τ).loc main_arg0)
/-- The keys. -/
abbrev argK : Heads := m ((c.tc : Thread nD τ).loc main_arg1)
/-- The values. -/
abbrev argV : Heads := m ((c.tc : Thread nD τ).loc main_arg2)
/-- The query scales. -/
abbrev argQs : QScales := m ((c.tc : Thread nD τ).loc main_arg3)
/-- The key scales. -/
abbrev argKs : Scales := m ((c.tc : Thread nD τ).loc main_arg4)
/-- The value scales. -/
abbrev argVs : Scales := m ((c.tc : Thread nD τ).loc main_arg5)

/-- The factors. -/
theorem V_factor (b : Fin 2) (kv : Fin 8) (g : Fin 7) :
    V m c main_v6 (ix2 b ⟨kv.1 * 7 + g.1, by omega⟩)
      = coef (argQs m c) (argKs m c) b kv ⟨kv.1 * 7 + g.1, by omega⟩ := by
  unfold V
  after_results
  pointwise
  unfold coef
  congr 3

/-- The reciprocal query scales. -/
theorem V_recq (b : Fin 2) (h : Fin 56) : V m c main_v10 (ix2 b h) = Ideal.div 1 (argQs m c (ix2 b h)) := by
  unfold V
  after_results
  pointwise

/-- The reciprocal key scales. -/
theorem V_reck (b : Fin 2) (h : Fin 8) : V m c main_v12 (ix2 b h) = Ideal.div 1 (argKs m c (ix2 b h)) := by
  unfold V
  after_results
  pointwise

/-- The reciprocal value scales. -/
theorem V_recv (b : Fin 2) (h : Fin 8) : V m c main_v14 (ix2 b h) = Ideal.div 1 (argVs m c (ix2 b h)) := by
  unfold V
  after_results
  pointwise

/-- The keys, heads first. -/
theorem V_keys (b : Fin 2) (h : Fin 8) (s : Fin 896) (d : Fin 128) :
    V m c main_v7 (ix4 b h s d) = argK m c (ix4 b s h d) := by
  unfold V
  after_results
  pointwise

/-- The values, heads first. -/
theorem V_values (b : Fin 2) (h : Fin 8) (s : Fin 896) (d : Fin 128) :
    V m c main_v8 (ix4 b h s d) = argV m c (ix4 b s h d) := by
  unfold V
  after_results
  pointwise

/-- There are sixteen grid points. -/
theorem lt_points (t : Fin cfg0.N) : t.1 < 16 := lt_of_lt_of_eq t.2 N_0

/-- The batch of a grid point. -/
def batchOf (t : Fin cfg0.N) : Fin 2 := ⟨t.1 / 8, by have := lt_points t; omega⟩
/-- The key head of a grid point. -/
def headOf (t : Fin cfg0.N) : Fin 8 := ⟨t.1 % 8, by omega⟩

/-- The scalar tables are whole blocks, the same at every grid point. -/
theorem index_table0 : ∀ t : Fin cfg0.N, win0_0.index t = ![0, 0] := by decide
theorem index_table1 : ∀ t : Fin cfg0.N, win0_1.index t = ![0, 0] := by decide
theorem index_table2 : ∀ t : Fin cfg0.N, win0_2.index t = ![0, 0] := by decide
theorem index_table3 : ∀ t : Fin cfg0.N, win0_3.index t = ![0, 0] := by decide
theorem index_table4 : ∀ t : Fin cfg0.N, win0_4.index t = ![0, 0] := by decide
/-- The block of queries of a grid point is its group of seven heads. -/
theorem index_queries : ∀ t : Fin cfg0.N, win0_5.index t = ![t.1 / 8, 0, t.1 % 8] := by decide
/-- The block of keys of a grid point is its head. -/
theorem index_keys : ∀ t : Fin cfg0.N, win0_6.index t = ![t.1 / 8, t.1 % 8, 0, 0] := by decide
/-- The block of values of a grid point is its head. -/
theorem index_values : ∀ t : Fin cfg0.N, win0_7.index t = ![t.1 / 8, t.1 % 8, 0, 0] := by decide

/-- A scalar table, read through its window. -/
theorem iblk_table0 (t : Fin cfg0.N) (b : Fin 2) (h : Fin 56) : iblk m c 0 t (ix2 b h) = V m c main_v6 (ix2 b h) := by
  blk_ext! [iblk, index_table0 t]
theorem iblk_table1 (t : Fin cfg0.N) (b : Fin 2) (h : Fin 56) : iblk m c 1 t (ix2 b h) = V m c main_v10 (ix2 b h) := by
  blk_ext! [iblk, index_table1 t]
theorem iblk_table2 (t : Fin cfg0.N) (b : Fin 2) (h : Fin 8) : iblk m c 2 t (ix2 b h) = V m c main_v12 (ix2 b h) := by
  blk_ext! [iblk, index_table2 t]
theorem iblk_table3 (t : Fin cfg0.N) (b : Fin 2) (h : Fin 8) : iblk m c 3 t (ix2 b h) = V m c main_v14 (ix2 b h) := by
  blk_ext! [iblk, index_table3 t]
theorem iblk_table4 (t : Fin cfg0.N) (b : Fin 2) (h : Fin 8) : iblk m c 4 t (ix2 b h) = argVs m c (ix2 b h) := by
  blk_ext! [iblk, V, index_table4 t]

/-- A grid point's queries. -/
theorem iblk_queries (t : Fin cfg0.N) (s : Fin 896) (l : Fin 896) :
    iblk m c 5 t (ix3 0 s l) = argX m c (ix3 (batchOf t) s ⟨(headOf t).1 * 896 + l.1, by have := (headOf t).2; omega⟩) := by
  have := lt_points t
  unfold batchOf headOf
  blk_ext! [iblk, V, index_queries t]

/-- A grid point's keys. -/
theorem iblk_keys (t : Fin cfg0.N) (s : Fin 896) (d : Fin 128) :
    iblk m c 6 t (ix4 0 0 s d) = argK m c (ix4 (batchOf t) s (headOf t) d) := by
  have := lt_points t
  refine Eq.trans ?_ (V_keys m c (batchOf t) (headOf t) s d)
  unfold batchOf headOf
  blk_ext! [iblk, index_keys t]

/-- A grid point's values. -/
theorem iblk_values (t : Fin cfg0.N) (s : Fin 896) (d : Fin 128) :
    iblk m c 7 t (ix4 0 0 s d) = argV m c (ix4 (batchOf t) s (headOf t) d) := by
  have := lt_points t
  refine Eq.trans ?_ (V_values m c (batchOf t) (headOf t) s d)
  unfold batchOf headOf
  blk_ext! [iblk, index_values t]

/-- Where a grid point reads the tables of one entry per key head. -/
theorem off1_eq : ∀ t : Fin cfg0.N, k0_off1 (grid0.coords t) = ![(batchOf t).1, (headOf t).1] := by decide
/-- Where a grid point reads the tables of one entry per query head. -/
theorem off2_eq : ∀ (t : Fin cfg0.N) (k : Fin 7),
    k0_off2 (grid0.coords t) (BitVec.ofNat 32 k.1) = ![(batchOf t).1, (headOf t).1 * 7 + k.1] := by decide

/-- A scalar read out of a table. -/
theorem scalar_read {a b : ℕ} {arg : Memref sig .tc .smem ⟨2, ![a, b]⟩ .f32} (harg : arg.IsWhole)
    (x : Vec Ideal ⟨2, ![a, b]⟩ .f32) {off : Fin 2 → ℕ} {inb : ∀ e, off e + S1x1.size e ≤ (⟨2, ![a, b]⟩ : Shape).size e}
    (p : 0 < S1x1.numel) (i : Fin a) (j : Fin b) (h : off = ![i.1, j.1]) :
    View.readAt (Elt Ideal) arg.view (Rect.unit (s := ⟨2, ![a, b]⟩) off S1x1.size inb).toLoadRect (harg.unread x) (Shape.Idx.first p)
      = x (ix2 i j) := by
  subst h
  rw [harg.readAt_unread]
  congr 1
  funext e
  have h0 : (Shape.Idx.first p (0 : Fin 2)).1 = 0 := Nat.lt_one_iff.mp (Shape.Idx.first p (0 : Fin 2)).2
  have h1 : (Shape.Idx.first p (1 : Fin 2)).1 = 0 := Nat.lt_one_iff.mp (Shape.Idx.first p (1 : Fin 2)).2
  refine Fin.ext ?_
  match e with
  | ⟨0, _⟩ => exact (by omega : i.1 + 1 * (Shape.Idx.first p (0 : Fin 2)).1 = i.1)
  | ⟨1, _⟩ => exact (by omega : j.1 + 1 * (Shape.Idx.first p (1 : Fin 2)).1 = j.1)

/-- The factors to the scores are positive real numbers. -/
def Positive (qs : QScales) (ks : Scales) : Prop :=
  ∀ (b : Fin 2) (kv : Fin 8) (g : Fin 7), ∃ r : ℝ, 0 < r ∧ coef qs ks b kv ⟨kv.1 * 7 + g.1, by omega⟩ = (r : EReal)

/-- What the point of batch `b` and key head `kv` works on. -/
def blockOf (X : Queries) (K V : Heads) (qs : QScales) (ks vs : Scales) (hp : Positive qs ks) (b : Fin 2) (kv : Fin 8) : Block where
  Q h s d := if hh : h < 7 ∧ s < 896 ∧ d < 128 then qcode X qs b ⟨kv.1 * 7 + h, by omega⟩ ⟨s, hh.2.1⟩ ⟨d, hh.2.2⟩ else (0 : ℝ)
  K s d := if hh : s < 896 ∧ d < 128 then kcode K ks b kv ⟨s, hh.1⟩ ⟨d, hh.2⟩ else (0 : ℝ)
  V s d := if hh : s < 896 ∧ d < 128 then kcode V vs b kv ⟨s, hh.1⟩ ⟨d, hh.2⟩ else (0 : ℝ)
  C h := if hh : h < 7 then coef qs ks b kv ⟨kv.1 * 7 + h, by omega⟩ else (0 : ℝ)
  vs := vs (ix2 b kv)
  real_Q h s d := by
    split
    · exact exists_clipped _ _
    · exact ⟨_, rfl⟩
  real_K s d := by
    split
    · exact exists_clipped _ _
    · exact ⟨_, rfl⟩
  pos_C h hh := by
    rw [dif_pos hh]
    exact hp b kv ⟨h, hh⟩

section

variable {X : Queries} {K V : Heads} {qs : QScales} {ks vs : Scales} {hp : Positive qs ks} {b : Fin 2} {kv : Fin 8}

theorem blockOf_Q (g : Fin 7) (s : Fin 896) (d : Fin 128) :
    (blockOf X K V qs ks vs hp b kv).Q g.1 s.1 d.1 = qcode X qs b ⟨kv.1 * 7 + g.1, by omega⟩ s d :=
  dif_pos ⟨g.2, s.2, d.2⟩
theorem blockOf_K (s : Fin 896) (d : Fin 128) : (blockOf X K V qs ks vs hp b kv).K s.1 d.1 = kcode K ks b kv s d :=
  dif_pos ⟨s.2, d.2⟩
theorem blockOf_V (s : Fin 896) (d : Fin 128) : (blockOf X K V qs ks vs hp b kv).V s.1 d.1 = kcode V vs b kv s d :=
  dif_pos ⟨s.2, d.2⟩
theorem blockOf_C (g : Fin 7) :
    (blockOf X K V qs ks vs hp b kv).C g.1 = coef qs ks b kv ⟨kv.1 * 7 + g.1, by omega⟩ :=
  dif_pos g.2

/-- The point's attention outputs are the attention outputs of its heads. -/
theorem blockOf_att (g : Fin 7) (s : Fin 896) (d : Fin 128) :
    (blockOf X K V qs ks vs hp b kv).att g.1 s.1 d.1 = att X K V qs ks vs b kv g s d := by
  unfold Block.att att
  congr 1
  · funext t
    unfold Block.z dots
    exact Finset.sum_congr rfl fun d _ => by rw [blockOf_Q, blockOf_K]
  · exact funext fun t => blockOf_V t d
  · exact blockOf_C g

/-- Their largest magnitude. -/
theorem blockOf_amax (g : Fin 7) :
    (blockOf X K V qs ks vs hp b kv).amaxTo g.1 896 = amax fun s d => att X K V qs ks vs b kv g s d := by
  unfold Block.amaxTo amax
  congr 1
  funext p
  rw [if_pos p.1.2, blockOf_att]

end

/-- The block a grid point reads. -/
abbrev pointBlock (hp : Positive (argQs m c) (argKs m c)) (t : Fin cfg0.N) : Block :=
  blockOf (argX m c) (argK m c) (argV m c) (argQs m c) (argKs m c) (argVs m c) hp (batchOf t) (headOf t)

/-- What a grid point loads is its block. -/
theorem feeds (hp : Positive (argQs m c) (argKs m c)) (t : Fin cfg0.N) :
    Feeds (pointBlock m c hp t) (grid0.coords t) (hs0_0 t) (hs0_1 t) (hs0_2 t) (hs0_3 t) (hs0_4 t) (hs0_5 t) (hs0_6 t) (hs0_7 t)
      (iblk m c 0 t) (iblk m c 1 t) (iblk m c 2 t) (iblk m c 3 t) (iblk m c 4 t) (iblk m c 5 t) (iblk m c 6 t) (iblk m c 7 t) where
  C k inb p hk := by
    refine (scalar_read (hs0_0 t) (iblk m c 0 t) p (batchOf t) ⟨(headOf t).1 * 7 + k, by have := (headOf t).2; omega⟩
      (off2_eq t ⟨k, hk⟩)).trans ?_
    rw [iblk_table0]
    exact (V_factor m c (batchOf t) (headOf t) ⟨k, hk⟩).trans (blockOf_C (g := ⟨k, hk⟩)).symm
  Q k hk inb p s d := by
    rw [scalar_read (hs0_1 t) (iblk m c 1 t) p (batchOf t) ⟨(headOf t).1 * 7 + k, by have := (headOf t).2; omega⟩
      (off2_eq t ⟨k, hk⟩), iblk_table1, V_recq, iblk_queries]
    refine (blockOf_Q ⟨k, hk⟩ s d).trans ?_
    unfold qcode
    congr 2
    exact congrArg (fun l => ix3 (batchOf t) s l) (Fin.ext (by simp only; omega))
  K inb p s d := by
    rw [scalar_read (hs0_2 t) (iblk m c 2 t) p (batchOf t) (headOf t) (off1_eq t), iblk_table2, V_reck, iblk_keys]
    exact blockOf_K s d
  V inb p s d := by
    rw [scalar_read (hs0_3 t) (iblk m c 3 t) p (batchOf t) (headOf t) (off1_eq t), iblk_table3, V_recv, iblk_values]
    exact blockOf_V s d
  vs inb p := by
    rw [scalar_read (hs0_4 t) (iblk m c 4 t) p (batchOf t) (headOf t) (off1_eq t), iblk_table4]
    rfl

end Cert.KernelIdeal.Val
-- ==== Proof.Precond.lean ====
module

public import proofs.«01_k».proof.Defs
public import proofs.«01_k».proof.Proof.Gen.Pre_scales_positive
public import proofs.«01_k».proof.Proof.Inputs

/-!
# The precondition

Query and key scales that are positive and finite make the factors to the scores positive real numbers.
-/

@[expose] public section

noncomputable section

namespace Cert.KernelIdeal.Val

open Cert.KernelIdeal Cert.KernelIdeal.Gen Idealize.ShloMosaic Cert.Attn

/-- A positive number that is not infinite. -/
theorem exists_pos {x : EReal} (h0 : 0 < x) (h1 : x < ⊤) : ∃ r : ℝ, 0 < r ∧ x = (r : EReal) := by
  have h := EReal.coe_toReal (ne_of_lt h1) (ne_of_gt (lt_trans EReal.bot_lt_zero h0))
  exact ⟨x.toReal, by rw [← h] at h0; exact EReal.coe_pos.mp h0, h.symm⟩

/-- The constant factor to the scores is positive. -/
theorem pos_constant : ∃ r : ℝ, 0 < r ∧ Ideal.ofBits .f32 0x3DB504F3#32 = (r : EReal) := by
  refine ⟨11863283 * ((2 : ℝ) ^ 27)⁻¹, by positivity, ?_⟩
  simp [Ideal.ofBits, Ideal.ieee]

/-- Positive finite scales make positive finite factors. -/
theorem positive_of {qs : QScales} {ks : Scales} (hq : ∀ i, 0 < qs i ∧ qs i < ⊤) (hk : ∀ i, 0 < ks i ∧ ks i < ⊤) : Positive qs ks := by
  intro b kv g
  obtain ⟨p, hp, ep⟩ := exists_pos (hq (ix2 b ⟨kv.1 * 7 + g.1, by omega⟩)).1 (hq _).2
  obtain ⟨q, hq', eq⟩ := exists_pos (hk (ix2 b kv)).1 (hk _).2
  obtain ⟨r, hr, er⟩ := pos_constant
  refine ⟨p * q * r, by positivity, ?_⟩
  unfold coef
  rw [ep, eq, er, EReal.coe_mul, EReal.coe_mul]

variable [Cert.Pre_scales_positive.Facts]

theorem ofBits_inf : Ideal.ofBits .f32 0x7F800000#32 = (⊤ : EReal) := by
  simp [Ideal.ofBits, Ideal.ieee]

/-- The precondition, read. -/
theorem positive (m : (ℓ : Loc nD τ sig) → Buf (Elt Ideal) ℓ) (hm : Cert.Pre_KernelIdeal_scales_positive m) (c : Dev nD) :
    Positive (argQs m c) (argKs m c) := by
  obtain ⟨h1, h2, h3, h4⟩ := hm c
  refine positive_of (fun i => ⟨?_, ?_⟩) (fun i => ⟨?_, ?_⟩)
  · have h : Ideal.cmp .ogt (argQs m c i) (Ideal.ofBits .f32 0x00000000#32) = 1 := congrFun h1 i
    rw [Ideal.cmp_ogt_eq_one] at h
    simpa using h
  · have h : Ideal.cmp .olt (argQs m c i) (Ideal.ofBits .f32 0x7F800000#32) = 1 := congrFun h2 i
    rw [Ideal.cmp_olt_eq_one, ofBits_inf] at h
    exact h
  · have h : Ideal.cmp .ogt (argKs m c i) (Ideal.ofBits .f32 0x00000000#32) = 1 := congrFun h3 i
    rw [Ideal.cmp_ogt_eq_one] at h
    simpa using h
  · have h : Ideal.cmp .olt (argKs m c i) (Ideal.ofBits .f32 0x7F800000#32) = 1 := congrFun h4 i
    rw [Ideal.cmp_olt_eq_one, ofBits_inf] at h
    exact h

end Cert.KernelIdeal.Val
-- ==== Proof.KernelA.lean ====
module

public import proofs.«01_k».proof.Proof.Gen.KernelIdeal.Frame
public import proofs.«01_k».proof.Proof.Feeds

/-!
# The blocks of the first point of a core, which stores the mask
-/

@[expose] public section

set_option maxRecDepth 16384

noncomputable section

namespace Cert.KernelIdeal.Val

open Cert.KernelIdeal Cert.KernelIdeal.Gen Idealize.ShloMosaic Cert.Attn

attribute [local irreducible] extractStridedSlice mulf shapeCast addf maximumf concatenate broadcastTo broadcast multiReduction transpose truncf subf divf exp2 constant IsO IsM IsD IsT IsC IsQ IsK IsV IsS IsBias View.readCov

/-- A load of the mask just stored. -/
theorem isBias_own {sig : RefSig} {κ : Kind} {sp : Space} {v : View sig κ sp S128x128 .f32} {inb inb' L} :
    IsBias (w := 128) (v.readCov (Val := Elt Ideal) (⟨Rect.unit (s := S128x128) ![0, 0] S128x128.size inb, k0_pay2 (F := Ideal)⟩ :: L)
      (Rect.unit (s := S128x128) ![0, 0] S128x128.size inb').toLoadRect) := by
  rw [View.readCov_cons_toLoadRect]
  exact isBias_mask

variable (c : Dev nD) (i : grid0.Coords) (arg2 : Memref sig .tc .smem S2x56 .f32) (harg2 : arg2.IsWhole) (arg3 : Memref sig .tc .smem S2x56 .f32) (harg3 : arg3.IsWhole) (arg4 : Memref sig .tc .smem S2x8 .f32) (harg4 : arg4.IsWhole) (arg5 : Memref sig .tc .smem S2x8 .f32) (harg5 : arg5.IsWhole) (arg6 : Memref sig .tc .smem S2x8 .f32) (harg6 : arg6.IsWhole) (arg7 : Memref sig .tc .vmem S1x896x896 .bf16) (harg7 : arg7.IsWhole) (arg8 : Memref sig .tc .vmem S1x1x896x128 .bf16) (harg8 : arg8.IsWhole) (arg9 : Memref sig .tc .vmem S1x1x896x128 .bf16) (harg9 : arg9.IsWhole) (arg10 : Memref sig .tc .vmem S1x896x896 .bf16) (harg10 : arg10.IsWhole) (arg11 : Memref sig .tc .vmem S1x896x896 .fp8e4m3) (harg11 : arg11.IsWhole) (arg12 : Memref sig .tc .vmem S1x1x896x128 .fp8e4m3) (harg12 : arg12.IsWhole) (arg13 : Memref sig .tc .vmem S1x1x896x128 .fp8e4m3) (harg13 : arg13.IsWhole) (arg14 : Memref sig .tc .vmem S1x1x7x128 .f32) (harg14 : arg14.IsWhole) (arg15 : Memref sig .tc .vmem S1x1x1x128 .f32) (harg15 : arg15.IsWhole) (arg16 : Memref sig .tc .vmem S1x1x1x128 .f32) (harg16 : arg16.IsWhole) (arg17 : Memref sig .tc .vmem S1x1x7x128 .f32) (harg17 : arg17.IsWhole) (arg18 : Memref sig .tc .vmem S3x896x256 .f32) (harg18 : arg18.IsWhole) (arg19 : Memref sig .tc .vmem S128x128 .f32) (harg19 : arg19.IsWhole)
    (x0 : Vec Ideal S2x56 .f32) (x1 : Vec Ideal S2x56 .f32) (x2 : Vec Ideal S2x8 .f32) (x3 : Vec Ideal S2x8 .f32) (x4 : Vec Ideal S2x8 .f32) (x5 : Vec Ideal S1x896x896 .bf16) (x6 : Vec Ideal S1x1x896x128 .bf16) (x7 : Vec Ideal S1x1x896x128 .bf16)
    (hc0 : cond0_0 i)

/-- The stores of the largest magnitudes of the queries. -/
theorem qam_pieces_A : View.PiecesOf (qamB x5) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.1 := by
  refine piecesOf_cons ?_ (group_amax x5 (k := 6) (by decide) (group_load harg7 x5 (k := 6) (by decide) rfl))
  refine piecesOf_cons ?_ (group_amax x5 (k := 5) (by decide) (group_load harg7 x5 (k := 5) (by decide) rfl))
  refine piecesOf_cons ?_ (group_amax x5 (k := 4) (by decide) (group_load harg7 x5 (k := 4) (by decide) rfl))
  refine piecesOf_cons ?_ (group_amax x5 (k := 3) (by decide) (group_load harg7 x5 (k := 3) (by decide) rfl))
  refine piecesOf_cons ?_ (group_amax x5 (k := 2) (by decide) (group_load harg7 x5 (k := 2) (by decide) rfl))
  refine piecesOf_cons ?_ (group_amax x5 (k := 1) (by decide) (group_load harg7 x5 (k := 1) (by decide) rfl))
  refine piecesOf_cons ?_ (group_amax x5 (k := 0) (by decide) (group_load harg7 x5 (k := 0) (by decide) rfl))
  trivial

/-- The store of the largest magnitude of the keys. -/
theorem kam_pieces_A : View.PiecesOf (hamB x6) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.1 := by
  refine piecesOf_cons ?_ (head_amax fun l => congrArg amax (funext fun s => funext fun d => (head_load harg8 x6 s d).symm))
  trivial

/-- The store of the largest magnitude of the values. -/
theorem vam_pieces_A : View.PiecesOf (hamB x7) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.2.1 := by
  refine piecesOf_cons ?_ (head_amax fun l => congrArg amax (funext fun s => funext fun d => (head_load harg9 x7 s d).symm))
  trivial

/-- The largest magnitudes of the queries. -/
theorem qam_A : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = qamB x5 :=
  (View.read_writes_junk_eq_canon _ _).trans (funext fun y =>
    View.canon_apply_of_pieces _ _ (View.PiecesOf.mem (qam_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0)) y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The largest magnitude of the keys. -/
theorem kam_A : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = hamB x6 :=
  (View.read_writes_junk_eq_canon _ _).trans (funext fun y =>
    View.canon_apply_of_pieces _ _ (View.PiecesOf.mem (kam_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0)) y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The largest magnitude of the values. -/
theorem vam_A : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = hamB x7 :=
  (View.read_writes_junk_eq_canon _ _).trans (funext fun y =>
    View.canon_apply_of_pieces _ _ (View.PiecesOf.mem (vam_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0)) y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

variable {B : Block} (hF : Feeds B i harg2 harg3 harg4 harg5 harg6 harg7 harg8 harg9 x0 x1 x2 x3 x4 x5 x6 x7)
include hF

/-- The stores of the query codes. -/
theorem qc_pieces_A : View.PiecesOf (qcB B) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.1 := by
  refine piecesOf_cons ?_ (group_piece (k := 6) rfl fun s d => (hF.Q 6 (by decide) _ _ s d).trans (congrArg (fun t => clipped t _) (group_load harg7 x5 (k := 6) (by decide) rfl s d).symm))
  refine piecesOf_cons ?_ (group_piece (k := 5) rfl fun s d => (hF.Q 5 (by decide) _ _ s d).trans (congrArg (fun t => clipped t _) (group_load harg7 x5 (k := 5) (by decide) rfl s d).symm))
  refine piecesOf_cons ?_ (group_piece (k := 4) rfl fun s d => (hF.Q 4 (by decide) _ _ s d).trans (congrArg (fun t => clipped t _) (group_load harg7 x5 (k := 4) (by decide) rfl s d).symm))
  refine piecesOf_cons ?_ (group_piece (k := 3) rfl fun s d => (hF.Q 3 (by decide) _ _ s d).trans (congrArg (fun t => clipped t _) (group_load harg7 x5 (k := 3) (by decide) rfl s d).symm))
  refine piecesOf_cons ?_ (group_piece (k := 2) rfl fun s d => (hF.Q 2 (by decide) _ _ s d).trans (congrArg (fun t => clipped t _) (group_load harg7 x5 (k := 2) (by decide) rfl s d).symm))
  refine piecesOf_cons ?_ (group_piece (k := 1) rfl fun s d => (hF.Q 1 (by decide) _ _ s d).trans (congrArg (fun t => clipped t _) (group_load harg7 x5 (k := 1) (by decide) rfl s d).symm))
  refine piecesOf_cons ?_ (group_piece (k := 0) rfl fun s d => (hF.Q 0 (by decide) _ _ s d).trans (congrArg (fun t => clipped t _) (group_load harg7 x5 (k := 0) (by decide) rfl s d).symm))
  trivial

/-- The store of the key codes. -/
theorem kc_pieces_A : View.PiecesOf (kcB B) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.1 := by
  refine piecesOf_cons ?_ (head_piece fun s d => (hF.K _ _ s d).trans (congrArg (fun t => clipped t _) (head_load harg8 x6 s d).symm))
  trivial

/-- The store of the value codes. -/
theorem vc_pieces_A : View.PiecesOf (vcB B) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.1 := by
  refine piecesOf_cons ?_ (head_piece fun s d => (hF.V _ _ s d).trans (congrArg (fun t => clipped t _) (head_load harg9 x7 s d).symm))
  trivial

/-- The query codes. -/
theorem qc_A : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = qcB B :=
  (View.read_writes_junk_eq_canon _ _).trans (funext fun y =>
    View.canon_apply_of_pieces _ _ (View.PiecesOf.mem (qc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF)) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The key codes. -/
theorem kc_A : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = kcB B :=
  (View.read_writes_junk_eq_canon _ _).trans (funext fun y =>
    View.canon_apply_of_pieces _ _ (View.PiecesOf.mem (kc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF)) y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The value codes. -/
theorem vc_A : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = vcB B :=
  (View.read_writes_junk_eq_canon _ _).trans (funext fun y =>
    View.canon_apply_of_pieces _ _ (View.PiecesOf.mem (vc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF)) y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The query codes, where the units load them. -/
theorem query_codes_A (y : S1x896x896.Idx) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.1 y = qcB B y :=
  View.canon_apply_of_pieces _ _ (View.PiecesOf.mem (qc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF)) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y)

/-- The key codes, as the products take them. -/
theorem key_codes_A : IsK B 896 (kernelRun0_A.sl.v46 c i arg4 harg4 arg8 harg8 x2 x6) :=
  isK_codes fun s d => (hF.K _ _ s d).trans (congrArg (fun t => clipped t _) (head_load harg8 x6 s d).symm)

/-- The value codes, as the products take them. -/
theorem value_codes_A : IsV B 896 (kernelRun0_A.sl.v68 c i arg5 harg5 arg9 harg9 x3 x7) :=
  isV_codes fun s d => (hF.V _ _ s d).trans (congrArg (fun t => clipped t _) (head_load harg9 x7 s d).symm)

set_option maxHeartbeats 1500000 in
/-- The stores of the outputs: every unit's is its heads' attention over its queries. -/
theorem out_pieces_A : View.PiecesOf (outB B) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).1 := by
  have hQ := query_codes_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF
  have hK : IsK B 896 (kernelRun0_A.sl.v46 c i arg4 harg4 arg8 harg8 x2 x6) := key_codes_A (hF := hF) ..
  have hV : IsV B 896 (kernelRun0_A.sl.v68 c i arg5 harg5 arg9 harg9 x3 x7) := value_codes_A (hF := hF) ..
  iterate 7
    refine piecesOf_cons ?_ (out_piece (h := 6) rfl ?_)
    refine piecesOf_cons ?_ (out_piece (h := 5) rfl ?_)
    refine piecesOf_cons ?_ (out_piece (h := 4) rfl ?_)
    refine piecesOf_cons ?_ (out_piece (h := 3) rfl ?_)
    refine piecesOf_cons ?_ (out_piece (h := 2) rfl ?_)
    refine piecesOf_cons ?_ (out_piece (h := 1) rfl ?_)
    refine piecesOf_cons ?_ (out_piece (h := 0) rfl ?_)
  · trivial
  all_goals repeat' first
      | refine isO_right ?_
      | refine isO_left ?_
      | refine isO_mulf (by decide) rfl (by decide) (by decide) ?_ (hF.vs _ _) ?_ ?_ ?_
      | exact hV
      | exact isV_slice (by decide) hV
      | refine isM_next rfl ?_ ?_
      | refine isM_first ?_
      | refine isD_next ?_ ?_
      | refine isD_first ?_ ?_
      | refine isT_matmul ?_ ?_
      | refine isT_slice ?_
      | exact hK
      | exact isK_slice (by decide) hK
      | exact isQ_one (query_load hQ rfl)
      | exact isQ_two (query_load hQ rfl) (query_load hQ rfl)
      | exact isBias_own
      | exact isBias_two isBias_own
      | exact isC_two (isC_one (mulf_log2e (hF.C _ _ _ (by decide)))) (isC_one (mulf_log2e (hF.C _ _ _ (by decide))))
      | exact isC_one (mulf_log2e (hF.C _ _ _ (by decide)))
      | refine isS_first _ ?_
      | refine isS_skip _ ?_ rfl
      | refine isS_next _ rfl ?_ ?_

set_option maxHeartbeats 1500000 in
/-- The stores of the largest magnitudes of the outputs. -/
theorem oam_rows_A : Rows B 7 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.2.2.1 := by
  have hQ := query_codes_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF
  have hK : IsK B 896 (kernelRun0_A.sl.v46 c i arg4 harg4 arg8 harg8 x2 x6) := key_codes_A (hF := hF) ..
  have hV : IsV B 896 (kernelRun0_A.sl.v68 c i arg5 harg5 arg9 harg9 x3 x7) := value_codes_A (hF := hF) ..
  iterate 7 refine rows_next rfl ?_ ?_
  · exact rows_zero _ _
  all_goals repeat' first
      | refine isAmax_next (by decide) rfl ?_ ?_
      | refine isAmax_first ?_
      | refine amax_load ?_
      | refine amax_skip ?_ rfl
      | refine isO_right ?_
      | refine isO_left ?_
      | refine isO_mulf (by decide) rfl (by decide) (by decide) ?_ (hF.vs _ _) ?_ ?_ ?_
      | exact hV
      | exact isV_slice (by decide) hV
      | refine isM_next rfl ?_ ?_
      | refine isM_first ?_
      | refine isD_next ?_ ?_
      | refine isD_first ?_ ?_
      | refine isT_matmul ?_ ?_
      | refine isT_slice ?_
      | exact hK
      | exact isK_slice (by decide) hK
      | exact isQ_one (query_load hQ rfl)
      | exact isQ_two (query_load hQ rfl) (query_load hQ rfl)
      | exact isBias_own
      | exact isBias_two isBias_own
      | exact isC_two (isC_one (mulf_log2e (hF.C _ _ _ (by decide)))) (isC_one (mulf_log2e (hF.C _ _ _ (by decide))))
      | exact isC_one (mulf_log2e (hF.C _ _ _ (by decide)))
      | refine isS_first _ ?_
      | refine isS_skip _ ?_ rfl
      | refine isS_next _ rfl ?_ ?_

/-- The outputs. -/
theorem out_A : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = outB B :=
  (View.read_writes_junk_eq_canon _ _).trans (funext fun y =>
    View.canon_apply_of_pieces _ _ (View.PiecesOf.mem (out_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF)) y (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 y))

/-- The largest magnitudes of the outputs. -/
theorem oam_A : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 = oamB B :=
  (View.read_writes_junk_eq_canon _ _).trans (funext fun y => oam_rows_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hF y (y 2).2)

omit hF in
/-- The mask the first point leaves for the others. -/
theorem mask_A : IsBias (w := 128) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) := by
  unfold sout0_A_1
  rw [View.read_writes_junk_eq_canon, show (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.2.2.2.1
    = [⟨Rect.unit ![0, 0] S128x128.size inb_S128x128_S128x128_0_0, k0_pay2 (F := Ideal)⟩] from rfl]
  rw [View.canon_unit_zero (funext fun a => by match a with | ⟨0, _⟩ => rfl | ⟨1, _⟩ => rfl)]
  exact isBias_mask

end Cert.KernelIdeal.Val
-- ==== Proof.KernelB.lean ====
module

public import proofs.«01_k».proof.Proof.Gen.KernelIdeal.Frame
public import proofs.«01_k».proof.Proof.Feeds

/-!
# The blocks of a later point, which reads the mask
-/

@[expose] public section

set_option maxRecDepth 16384

noncomputable section

namespace Cert.KernelIdeal.Val

open Cert.KernelIdeal Cert.KernelIdeal.Gen Idealize.ShloMosaic Cert.Attn

attribute [local irreducible] extractStridedSlice mulf shapeCast addf maximumf concatenate broadcastTo broadcast multiReduction transpose truncf subf divf exp2 constant IsO IsM IsD IsT IsC IsQ IsK IsV IsS IsBias View.readCov

variable (c : Dev nD) (i : grid0.Coords) (arg2 : Memref sig .tc .smem S2x56 .f32) (harg2 : arg2.IsWhole) (arg3 : Memref sig .tc .smem S2x56 .f32) (harg3 : arg3.IsWhole) (arg4 : Memref sig .tc .smem S2x8 .f32) (harg4 : arg4.IsWhole) (arg5 : Memref sig .tc .smem S2x8 .f32) (harg5 : arg5.IsWhole) (arg6 : Memref sig .tc .smem S2x8 .f32) (harg6 : arg6.IsWhole) (arg7 : Memref sig .tc .vmem S1x896x896 .bf16) (harg7 : arg7.IsWhole) (arg8 : Memref sig .tc .vmem S1x1x896x128 .bf16) (harg8 : arg8.IsWhole) (arg9 : Memref sig .tc .vmem S1x1x896x128 .bf16) (harg9 : arg9.IsWhole) (arg10 : Memref sig .tc .vmem S1x896x896 .bf16) (harg10 : arg10.IsWhole) (arg11 : Memref sig .tc .vmem S1x896x896 .fp8e4m3) (harg11 : arg11.IsWhole) (arg12 : Memref sig .tc .vmem S1x1x896x128 .fp8e4m3) (harg12 : arg12.IsWhole) (arg13 : Memref sig .tc .vmem S1x1x896x128 .fp8e4m3) (harg13 : arg13.IsWhole) (arg14 : Memref sig .tc .vmem S1x1x7x128 .f32) (harg14 : arg14.IsWhole) (arg15 : Memref sig .tc .vmem S1x1x1x128 .f32) (harg15 : arg15.IsWhole) (arg16 : Memref sig .tc .vmem S1x1x1x128 .f32) (harg16 : arg16.IsWhole) (arg17 : Memref sig .tc .vmem S1x1x7x128 .f32) (harg17 : arg17.IsWhole) (arg18 : Memref sig .tc .vmem S3x896x256 .f32) (harg18 : arg18.IsWhole) (arg19 : Memref sig .tc .vmem S128x128 .f32) (harg19 : arg19.IsWhole)
    (x0 : Vec Ideal S2x56 .f32) (x1 : Vec Ideal S2x56 .f32) (x2 : Vec Ideal S2x8 .f32) (x3 : Vec Ideal S2x8 .f32) (x4 : Vec Ideal S2x8 .f32) (x5 : Vec Ideal S1x896x896 .bf16) (x6 : Vec Ideal S1x1x896x128 .bf16) (x7 : Vec Ideal S1x1x896x128 .bf16)
    (hc0 : ¬cond0_0 i) (xs1 : Vec Ideal S128x128 .f32)

/-- The stores of the largest magnitudes of the queries. -/
theorem qam_pieces_B : View.PiecesOf (qamB x5) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.2.2.1 := by
  refine piecesOf_cons ?_ (group_amax x5 (k := 6) (by decide) (group_load harg7 x5 (k := 6) (by decide) rfl))
  refine piecesOf_cons ?_ (group_amax x5 (k := 5) (by decide) (group_load harg7 x5 (k := 5) (by decide) rfl))
  refine piecesOf_cons ?_ (group_amax x5 (k := 4) (by decide) (group_load harg7 x5 (k := 4) (by decide) rfl))
  refine piecesOf_cons ?_ (group_amax x5 (k := 3) (by decide) (group_load harg7 x5 (k := 3) (by decide) rfl))
  refine piecesOf_cons ?_ (group_amax x5 (k := 2) (by decide) (group_load harg7 x5 (k := 2) (by decide) rfl))
  refine piecesOf_cons ?_ (group_amax x5 (k := 1) (by decide) (group_load harg7 x5 (k := 1) (by decide) rfl))
  refine piecesOf_cons ?_ (group_amax x5 (k := 0) (by decide) (group_load harg7 x5 (k := 0) (by decide) rfl))
  trivial

/-- The store of the largest magnitude of the keys. -/
theorem kam_pieces_B : View.PiecesOf (hamB x6) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.2.2.2.1 := by
  refine piecesOf_cons ?_ (head_amax fun l => congrArg amax (funext fun s => funext fun d => (head_load harg8 x6 s d).symm))
  trivial

/-- The store of the largest magnitude of the values. -/
theorem vam_pieces_B : View.PiecesOf (hamB x7) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.2.2.2.2.1 := by
  refine piecesOf_cons ?_ (head_amax fun l => congrArg amax (funext fun s => funext fun d => (head_load harg9 x7 s d).symm))
  trivial

/-- The largest magnitudes of the queries. -/
theorem qam_B : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = qamB x5 :=
  (View.read_writes_junk_eq_canon _ _).trans (funext fun y =>
    View.canon_apply_of_pieces _ _ (View.PiecesOf.mem (qam_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1)) y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The largest magnitude of the keys. -/
theorem kam_B : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = hamB x6 :=
  (View.read_writes_junk_eq_canon _ _).trans (funext fun y =>
    View.canon_apply_of_pieces _ _ (View.PiecesOf.mem (kam_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1)) y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The largest magnitude of the values. -/
theorem vam_B : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = hamB x7 :=
  (View.read_writes_junk_eq_canon _ _).trans (funext fun y =>
    View.canon_apply_of_pieces _ _ (View.PiecesOf.mem (vam_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1)) y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

variable {B : Block} (hF : Feeds B i harg2 harg3 harg4 harg5 harg6 harg7 harg8 harg9 x0 x1 x2 x3 x4 x5 x6 x7)
include hF

/-- The stores of the query codes. -/
theorem qc_pieces_B : View.PiecesOf (qcB B) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.1 := by
  refine piecesOf_cons ?_ (group_piece (k := 6) rfl fun s d => (hF.Q 6 (by decide) _ _ s d).trans (congrArg (fun t => clipped t _) (group_load harg7 x5 (k := 6) (by decide) rfl s d).symm))
  refine piecesOf_cons ?_ (group_piece (k := 5) rfl fun s d => (hF.Q 5 (by decide) _ _ s d).trans (congrArg (fun t => clipped t _) (group_load harg7 x5 (k := 5) (by decide) rfl s d).symm))
  refine piecesOf_cons ?_ (group_piece (k := 4) rfl fun s d => (hF.Q 4 (by decide) _ _ s d).trans (congrArg (fun t => clipped t _) (group_load harg7 x5 (k := 4) (by decide) rfl s d).symm))
  refine piecesOf_cons ?_ (group_piece (k := 3) rfl fun s d => (hF.Q 3 (by decide) _ _ s d).trans (congrArg (fun t => clipped t _) (group_load harg7 x5 (k := 3) (by decide) rfl s d).symm))
  refine piecesOf_cons ?_ (group_piece (k := 2) rfl fun s d => (hF.Q 2 (by decide) _ _ s d).trans (congrArg (fun t => clipped t _) (group_load harg7 x5 (k := 2) (by decide) rfl s d).symm))
  refine piecesOf_cons ?_ (group_piece (k := 1) rfl fun s d => (hF.Q 1 (by decide) _ _ s d).trans (congrArg (fun t => clipped t _) (group_load harg7 x5 (k := 1) (by decide) rfl s d).symm))
  refine piecesOf_cons ?_ (group_piece (k := 0) rfl fun s d => (hF.Q 0 (by decide) _ _ s d).trans (congrArg (fun t => clipped t _) (group_load harg7 x5 (k := 0) (by decide) rfl s d).symm))
  trivial

/-- The store of the key codes. -/
theorem kc_pieces_B : View.PiecesOf (kcB B) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.1 := by
  refine piecesOf_cons ?_ (head_piece fun s d => (hF.K _ _ s d).trans (congrArg (fun t => clipped t _) (head_load harg8 x6 s d).symm))
  trivial

/-- The store of the value codes. -/
theorem vc_pieces_B : View.PiecesOf (vcB B) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.2.1 := by
  refine piecesOf_cons ?_ (head_piece fun s d => (hF.V _ _ s d).trans (congrArg (fun t => clipped t _) (head_load harg9 x7 s d).symm))
  trivial

/-- The query codes. -/
theorem qc_B : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = qcB B :=
  (View.read_writes_junk_eq_canon _ _).trans (funext fun y =>
    View.canon_apply_of_pieces _ _ (View.PiecesOf.mem (qc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF)) y (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The key codes. -/
theorem kc_B : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = kcB B :=
  (View.read_writes_junk_eq_canon _ _).trans (funext fun y =>
    View.canon_apply_of_pieces _ _ (View.PiecesOf.mem (kc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF)) y (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The value codes. -/
theorem vc_B : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = vcB B :=
  (View.read_writes_junk_eq_canon _ _).trans (funext fun y =>
    View.canon_apply_of_pieces _ _ (View.PiecesOf.mem (vc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF)) y (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The query codes, where the units load them. -/
theorem query_codes_B (y : S1x896x896.Idx) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.1 y = qcB B y :=
  View.canon_apply_of_pieces _ _ (View.PiecesOf.mem (qc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF)) y (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y)

/-- The key codes, as the products take them. -/
theorem key_codes_B : IsK B 896 (kernelRun0_B.sl.v46 c i arg4 harg4 arg8 harg8 x2 x6) :=
  isK_codes fun s d => (hF.K _ _ s d).trans (congrArg (fun t => clipped t _) (head_load harg8 x6 s d).symm)

/-- The value codes, as the products take them. -/
theorem value_codes_B : IsV B 896 (kernelRun0_B.sl.v68 c i arg5 harg5 arg9 harg9 x3 x7) :=
  isV_codes fun s d => (hF.V _ _ s d).trans (congrArg (fun t => clipped t _) (head_load harg9 x7 s d).symm)

set_option maxHeartbeats 1500000 in
/-- The stores of the outputs: every unit's is its heads' attention over its queries. -/
theorem out_pieces_B (hb : IsBias (w := 128) xs1) : View.PiecesOf (outB B) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).1 := by
  have hQ := query_codes_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF
  have hK : IsK B 896 (kernelRun0_B.sl.v46 c i arg4 harg4 arg8 harg8 x2 x6) := key_codes_B (hF := hF) ..
  have hV : IsV B 896 (kernelRun0_B.sl.v68 c i arg5 harg5 arg9 harg9 x3 x7) := value_codes_B (hF := hF) ..
  iterate 7
    refine piecesOf_cons ?_ (out_piece (h := 6) rfl ?_)
    refine piecesOf_cons ?_ (out_piece (h := 5) rfl ?_)
    refine piecesOf_cons ?_ (out_piece (h := 4) rfl ?_)
    refine piecesOf_cons ?_ (out_piece (h := 3) rfl ?_)
    refine piecesOf_cons ?_ (out_piece (h := 2) rfl ?_)
    refine piecesOf_cons ?_ (out_piece (h := 1) rfl ?_)
    refine piecesOf_cons ?_ (out_piece (h := 0) rfl ?_)
  · trivial
  all_goals repeat' first
      | refine isO_right ?_
      | refine isO_left ?_
      | refine isO_mulf (by decide) rfl (by decide) (by decide) ?_ (hF.vs _ _) ?_ ?_ ?_
      | exact hV
      | exact isV_slice (by decide) hV
      | refine isM_next rfl ?_ ?_
      | refine isM_first ?_
      | refine isD_next ?_ ?_
      | refine isD_first ?_ ?_
      | refine isT_matmul ?_ ?_
      | refine isT_slice ?_
      | exact hK
      | exact isK_slice (by decide) hK
      | exact isQ_one (query_load hQ rfl)
      | exact isQ_two (query_load hQ rfl) (query_load hQ rfl)
      | exact (isBias_load harg19 hb)
      | exact isBias_two (isBias_load harg19 hb)
      | exact isC_two (isC_one (mulf_log2e (hF.C _ _ _ (by decide)))) (isC_one (mulf_log2e (hF.C _ _ _ (by decide))))
      | exact isC_one (mulf_log2e (hF.C _ _ _ (by decide)))
      | refine isS_first _ ?_
      | refine isS_skip _ ?_ rfl
      | refine isS_next _ rfl ?_ ?_

set_option maxHeartbeats 1500000 in
/-- The stores of the largest magnitudes of the outputs. -/
theorem oam_rows_B (hb : IsBias (w := 128) xs1) : Rows B 7 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1).2.2.2.2.2.2.2.1 := by
  have hQ := query_codes_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF
  have hK : IsK B 896 (kernelRun0_B.sl.v46 c i arg4 harg4 arg8 harg8 x2 x6) := key_codes_B (hF := hF) ..
  have hV : IsV B 896 (kernelRun0_B.sl.v68 c i arg5 harg5 arg9 harg9 x3 x7) := value_codes_B (hF := hF) ..
  iterate 7 refine rows_next rfl ?_ ?_
  · exact rows_zero _ _
  all_goals repeat' first
      | refine isAmax_next (by decide) rfl ?_ ?_
      | refine isAmax_first ?_
      | refine amax_load ?_
      | refine amax_skip ?_ rfl
      | refine isO_right ?_
      | refine isO_left ?_
      | refine isO_mulf (by decide) rfl (by decide) (by decide) ?_ (hF.vs _ _) ?_ ?_ ?_
      | exact hV
      | exact isV_slice (by decide) hV
      | refine isM_next rfl ?_ ?_
      | refine isM_first ?_
      | refine isD_next ?_ ?_
      | refine isD_first ?_ ?_
      | refine isT_matmul ?_ ?_
      | refine isT_slice ?_
      | exact hK
      | exact isK_slice (by decide) hK
      | exact isQ_one (query_load hQ rfl)
      | exact isQ_two (query_load hQ rfl) (query_load hQ rfl)
      | exact (isBias_load harg19 hb)
      | exact isBias_two (isBias_load harg19 hb)
      | exact isC_two (isC_one (mulf_log2e (hF.C _ _ _ (by decide)))) (isC_one (mulf_log2e (hF.C _ _ _ (by decide))))
      | exact isC_one (mulf_log2e (hF.C _ _ _ (by decide)))
      | refine isS_first _ ?_
      | refine isS_skip _ ?_ rfl
      | refine isS_next _ rfl ?_ ?_

/-- The outputs. -/
theorem out_B (hb : IsBias (w := 128) xs1) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = outB B :=
  (View.read_writes_junk_eq_canon _ _).trans (funext fun y =>
    View.canon_apply_of_pieces _ _ (View.PiecesOf.mem (out_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF hb)) y (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 y))

/-- The largest magnitudes of the outputs. -/
theorem oam_B (hb : IsBias (w := 128) xs1) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs1 = oamB B :=
  (View.read_writes_junk_eq_canon _ _).trans (funext fun y => oam_rows_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 xs1 hF hb y (y 2).2)

end Cert.KernelIdeal.Val
-- ==== Proof.Results.lean ====
module

public import proofs.«01_k».proof.Proof.Spec

/-!
# The result arrays

The eight result arrays as functions of the six argument arrays.
-/

@[expose] public section

noncomputable section

namespace Cert.Attn

open Idealize.ShloMosaic

/-- The attention outputs: heads side by side. -/
def outOf (X : Queries) (K V : Heads) (qs : QScales) (ks vs : Scales) (b : Fin 2) (s : Fin 896) (l : Fin 7168) : EReal :=
  att X K V qs ks vs b ⟨l.1 / 896, by omega⟩ ⟨l.1 / 128 % 7, by omega⟩ s ⟨l.1 % 128, by omega⟩

/-- The query codes: heads side by side. -/
def qcOf (X : Queries) (qs : QScales) (b : Fin 2) (s : Fin 896) (l : Fin 7168) : EReal :=
  qcode X qs b ⟨l.1 / 128, by omega⟩ s ⟨l.1 % 128, by omega⟩

/-- The largest magnitude of the queries of one head. -/
def qamOf (X : Queries) (b : Fin 2) (kv : Fin 8) (g : Fin 7) : EReal :=
  amax fun s d => X (ix3 b s ⟨(kv.1 * 7 + g.1) * 128 + d.1, by omega⟩)

/-- The largest magnitude of the keys or values of one head. -/
def hamOf (K : Heads) (b : Fin 2) (kv : Fin 8) : EReal := amax fun s d => K (ix4 b s kv d)

/-- The largest magnitude of the outputs of one head. -/
def oamOf (X : Queries) (K V : Heads) (qs : QScales) (ks vs : Scales) (b : Fin 2) (kv : Fin 8) (g : Fin 7) : EReal :=
  amax fun s d => att X K V qs ks vs b kv g s d

end Cert.Attn
-- ==== Proof.Outputs.lean ====
module

public import proofs.«01_k».proof.Proof.KernelA
public import proofs.«01_k».proof.Proof.KernelB
public import proofs.«01_k».proof.Proof.Inputs
public import proofs.«01_k».proof.Proof.Results
public import proofs.«01_k».proof.Proof.Gen.KernelIdeal.Value

/-!
# The kernel's result arrays

Each grid point leaves its block's results, and every index of a result array lies in one point's block.
-/

@[expose] public section

noncomputable section

namespace Cert.KernelIdeal.Val

open Cert.KernelIdeal Cert.KernelIdeal.Gen Cert.KernelIdeal.Value Idealize.ShloMosaic Idealize.ShloMosaic.Pipeline Cert.Attn

variable (m : (ℓ : Loc nD τ sig) → Buf (Elt Ideal) ℓ) (c : Dev nD)

/-- The mask that the first point stores is kept to the end. -/
theorem mask_at : ∀ (n : ℕ) (hn : n < cfg0.N), IsBias (w := 128) (outsAt0 m c n hn).2.2.2.2.2.2.2.2
  | 0, hn => by
    have e := outsAt0_A m c ⟨0, hn⟩ (Nat.zero_mod _)
    dsimp only at e
    rw [e]
    dsimp only
    intro r j
    exact mask_A ..
  | n + 1, hn => by
    have hN := lt_points ⟨n + 1, hn⟩
    have e := outsAt0_B m c ⟨n + 1, hn⟩ (by simp only at hN ⊢; omega)
    dsimp only at e
    rw [e]
    exact mask_at n (Nat.lt_of_succ_lt hn)

/-- What a point leaves of the results of its block. -/
structure Leaves (B : Block) (X : Vec Ideal S1x896x896 .bf16) (K W : Vec Ideal S1x1x896x128 .bf16) (n : ℕ) (hn : n < cfg0.N) : Prop where
  out : (outsAt0 m c n hn).1 = outB B
  qc : (outsAt0 m c n hn).2.1 = qcB B
  kc : (outsAt0 m c n hn).2.2.1 = kcB B
  vc : (outsAt0 m c n hn).2.2.2.1 = vcB B
  qam : (outsAt0 m c n hn).2.2.2.2.1 = qamB X
  kam : (outsAt0 m c n hn).2.2.2.2.2.1 = hamB K
  vam : (outsAt0 m c n hn).2.2.2.2.2.2.1 = hamB W
  oam : (outsAt0 m c n hn).2.2.2.2.2.2.2.1 = oamB B

/-- Every point leaves the results of its block. -/
theorem leaves (hp : Positive (argQs m c) (argKs m c)) (t : Fin cfg0.N) :
    Leaves m c (pointBlock m c hp t) (iblk m c 5 t) (iblk m c 6 t) (iblk m c 7 t) t.1 t.2 := by
  have hF := feeds m c hp t
  by_cases h0 : t.1 % 16 = 0
  · have e := outsAt0_A m c t h0
    exact {
      out := by rw [e]; dsimp only; exact out_A (hF := hF) ..
      qc := by rw [e]; dsimp only; exact qc_A (hF := hF) ..
      kc := by rw [e]; dsimp only; exact kc_A (hF := hF) ..
      vc := by rw [e]; dsimp only; exact vc_A (hF := hF) ..
      qam := by rw [e]; dsimp only; exact qam_A ..
      kam := by rw [e]; dsimp only; exact kam_A ..
      vam := by rw [e]; dsimp only; exact vam_A ..
      oam := by rw [e]; dsimp only; exact oam_A (hF := hF) .. }
  · have e := outsAt0_B m c t h0
    have hb := mask_at m c (t.1 - 1) (Nat.lt_of_le_of_lt (Nat.sub_le _ _) t.isLt)
    exact {
      out := by rw [e]; dsimp only; exact out_B (hF := hF) (hb := hb) ..
      qc := by rw [e]; dsimp only; exact qc_B (hF := hF) ..
      kc := by rw [e]; dsimp only; exact kc_B (hF := hF) ..
      vc := by rw [e]; dsimp only; exact vc_B (hF := hF) ..
      qam := by rw [e]; dsimp only; exact qam_B ..
      kam := by rw [e]; dsimp only; exact kam_B ..
      vam := by rw [e]; dsimp only; exact vam_B ..
      oam := by rw [e]; dsimp only; exact oam_B (hF := hF) (hb := hb) .. }

/-- The point of a batch and a key head. -/
theorem point_of {n : ℕ} {hn : n < cfg0.N} (b : Fin 2) (kv : Fin 8) (h : n = 8 * b.1 + kv.1) :
    batchOf ⟨n, hn⟩ = b ∧ headOf ⟨n, hn⟩ = kv :=
  ⟨Fin.ext (by simp only [batchOf]; omega), Fin.ext (by simp only [headOf]; omega)⟩

variable (hp : Positive (argQs m c) (argKs m c))
include hp

/-- The attention outputs. -/
theorem G8_eq (b : Fin 2) (s : Fin 896) (l : Fin 7168) :
    G8 m c (ix3 b s l) = outOf (argX m c) (argK m c) (argV m c) (argQs m c) (argKs m c) (argVs m c) b s l := by
  have hn : pt8Of (ix3 b s l) = 8 * b.1 + (⟨l.1 / 896, by omega⟩ : Fin 8).1 := by
    show 8 * (b.1 / 1 - 0) + 8 * (s.1 / 896 - 0) + 1 * (l.1 / 896 - 0) = _
    simp only
    omega
  have hN : pt8Of (ix3 b s l) < cfg0.N := lt_of_lt_of_eq (by rw [hn]; simp only; omega) N_0.symm
  obtain ⟨hb, hk⟩ := point_of (hn := hN) b _ hn
  unfold G8
  rw [dif_pos hN, ← outsAt0_sweep m c _ hN, (leaves m c hp ⟨_, hN⟩).out]
  unfold pointBlock
  rw [hb, hk]
  show Block.att _ (l.1 % 896 / 128) (s.1 % 896) (l.1 % 896 % 128) = _
  rw [show l.1 % 896 / 128 = l.1 / 128 % 7 by omega, Nat.mod_eq_of_lt s.2, show l.1 % 896 % 128 = l.1 % 128 by omega]
  exact blockOf_att ⟨l.1 / 128 % 7, by omega⟩ s ⟨l.1 % 128, by omega⟩

/-- The query codes. -/
theorem G9_eq (b : Fin 2) (s : Fin 896) (l : Fin 7168) :
    G9 m c (ix3 b s l) = qcOf (argX m c) (argQs m c) b s l := by
  have hn : pt9Of (ix3 b s l) = 8 * b.1 + (⟨l.1 / 896, by omega⟩ : Fin 8).1 := by
    show 8 * (b.1 / 1 - 0) + 8 * (s.1 / 896 - 0) + 1 * (l.1 / 896 - 0) = _
    simp only
    omega
  have hN : pt9Of (ix3 b s l) < cfg0.N := lt_of_lt_of_eq (by rw [hn]; simp only; omega) N_0.symm
  obtain ⟨hb, hk⟩ := point_of (hn := hN) b _ hn
  unfold G9
  rw [dif_pos hN, ← outsAt0_sweep m c _ hN, (leaves m c hp ⟨_, hN⟩).qc]
  unfold pointBlock
  rw [hb, hk]
  show Block.Q _ (l.1 % 896 / 128) (s.1 % 896) (l.1 % 896 % 128) = _
  rw [show l.1 % 896 / 128 = l.1 / 128 % 7 by omega, Nat.mod_eq_of_lt s.2, show l.1 % 896 % 128 = l.1 % 128 by omega]
  refine (blockOf_Q ⟨l.1 / 128 % 7, by omega⟩ s ⟨l.1 % 128, by omega⟩).trans ?_
  unfold qcOf
  congr 1
  exact Fin.ext (by simp only; omega)

/-- The key codes. -/
theorem G10_eq (b : Fin 2) (kv : Fin 8) (s : Fin 896) (d : Fin 128) :
    G10 m c (ix4 b kv s d) = kcode (argK m c) (argKs m c) b kv s d := by
  have hn : pt10Of (ix4 b kv s d) = 8 * b.1 + kv.1 := by
    show 8 * (b.1 / 1 - 0) + 1 * (kv.1 / 1 - 0) + 1 * (s.1 / 896 - 0) + 1 * (d.1 / 128 - 0) = _
    omega
  have hN : pt10Of (ix4 b kv s d) < cfg0.N := lt_of_lt_of_eq (by rw [hn]; omega) N_0.symm
  obtain ⟨hb, hk⟩ := point_of (hn := hN) b _ hn
  unfold G10
  rw [dif_pos hN, ← outsAt0_sweep m c _ hN, (leaves m c hp ⟨_, hN⟩).kc]
  unfold pointBlock
  rw [hb, hk]
  show Block.K _ (s.1 % 896) (d.1 % 128) = _
  rw [Nat.mod_eq_of_lt s.2, Nat.mod_eq_of_lt d.2]
  exact blockOf_K s d

/-- The value codes. -/
theorem G11_eq (b : Fin 2) (kv : Fin 8) (s : Fin 896) (d : Fin 128) :
    G11 m c (ix4 b kv s d) = kcode (argV m c) (argVs m c) b kv s d := by
  have hn : pt11Of (ix4 b kv s d) = 8 * b.1 + kv.1 := by
    show 8 * (b.1 / 1 - 0) + 1 * (kv.1 / 1 - 0) + 1 * (s.1 / 896 - 0) + 1 * (d.1 / 128 - 0) = _
    omega
  have hN : pt11Of (ix4 b kv s d) < cfg0.N := lt_of_lt_of_eq (by rw [hn]; omega) N_0.symm
  obtain ⟨hb, hk⟩ := point_of (hn := hN) b _ hn
  unfold G11
  rw [dif_pos hN, ← outsAt0_sweep m c _ hN, (leaves m c hp ⟨_, hN⟩).vc]
  unfold pointBlock
  rw [hb, hk]
  show Block.V _ (s.1 % 896) (d.1 % 128) = _
  rw [Nat.mod_eq_of_lt s.2, Nat.mod_eq_of_lt d.2]
  exact blockOf_V s d

/-- The largest magnitudes of the queries. -/
theorem G12_eq (b : Fin 2) (kv : Fin 8) (g : Fin 7) (l : Fin 128) :
    G12 m c (ix4 b kv g l) = qamOf (argX m c) b kv g := by
  have hn : pt12Of (ix4 b kv g l) = 8 * b.1 + kv.1 := by
    show 8 * (b.1 / 1 - 0) + 1 * (kv.1 / 1 - 0) + 1 * (g.1 / 7 - 0) + 1 * (l.1 / 128 - 0) = _
    omega
  have hN : pt12Of (ix4 b kv g l) < cfg0.N := lt_of_lt_of_eq (by rw [hn]; omega) N_0.symm
  obtain ⟨hb, hk⟩ := point_of (hn := hN) b _ hn
  unfold G12
  rw [dif_pos hN, ← outsAt0_sweep m c _ hN, (leaves m c hp ⟨_, hN⟩).qam]
  unfold qamB qamOf
  congr 1
  funext s d
  rw [iblk_queries, hb]
  refine congrArg (fun l => argX m c (ix3 b s l)) (Fin.ext ?_)
  show (headOf ⟨_, hN⟩).1 * 896 + (g.1 % 7 * 128 + d.1) = (kv.1 * 7 + g.1) * 128 + d.1
  rw [hk]
  omega

/-- The largest magnitudes of the keys. -/
theorem G13_eq (b : Fin 2) (kv : Fin 8) (l : Fin 128) :
    G13 m c (ix4 b kv 0 l) = hamOf (argK m c) b kv := by
  have hn : pt13Of (ix4 b kv 0 l) = 8 * b.1 + kv.1 := by
    show 8 * (b.1 / 1 - 0) + 1 * (kv.1 / 1 - 0) + 1 * (0 / 1 - 0) + 1 * (l.1 / 128 - 0) = _
    omega
  have hN : pt13Of (ix4 b kv 0 l) < cfg0.N := lt_of_lt_of_eq (by rw [hn]; omega) N_0.symm
  obtain ⟨hb, hk⟩ := point_of (hn := hN) b _ hn
  unfold G13
  rw [dif_pos hN, ← outsAt0_sweep m c _ hN, (leaves m c hp ⟨_, hN⟩).kam]
  unfold hamB hamOf
  congr 1
  funext s d
  rw [iblk_keys, hb, hk]

/-- The largest magnitudes of the values. -/
theorem G14_eq (b : Fin 2) (kv : Fin 8) (l : Fin 128) :
    G14 m c (ix4 b kv 0 l) = hamOf (argV m c) b kv := by
  have hn : pt14Of (ix4 b kv 0 l) = 8 * b.1 + kv.1 := by
    show 8 * (b.1 / 1 - 0) + 1 * (kv.1 / 1 - 0) + 1 * (0 / 1 - 0) + 1 * (l.1 / 128 - 0) = _
    omega
  have hN : pt14Of (ix4 b kv 0 l) < cfg0.N := lt_of_lt_of_eq (by rw [hn]; omega) N_0.symm
  obtain ⟨hb, hk⟩ := point_of (hn := hN) b _ hn
  unfold G14
  rw [dif_pos hN, ← outsAt0_sweep m c _ hN, (leaves m c hp ⟨_, hN⟩).vam]
  unfold hamB hamOf
  congr 1
  funext s d
  rw [iblk_values, hb, hk]

/-- The largest magnitudes of the outputs. -/
theorem G15_eq (b : Fin 2) (kv : Fin 8) (g : Fin 7) (l : Fin 128) :
    G15 m c (ix4 b kv g l)
      = oamOf (argX m c) (argK m c) (argV m c) (argQs m c) (argKs m c) (argVs m c) b kv g := by
  have hn : pt15Of (ix4 b kv g l) = 8 * b.1 + kv.1 := by
    show 8 * (b.1 / 1 - 0) + 1 * (kv.1 / 1 - 0) + 1 * (g.1 / 7 - 0) + 1 * (l.1 / 128 - 0) = _
    omega
  have hN : pt15Of (ix4 b kv g l) < cfg0.N := lt_of_lt_of_eq (by rw [hn]; omega) N_0.symm
  obtain ⟨hb, hk⟩ := point_of (hn := hN) b _ hn
  unfold G15
  rw [dif_pos hN, ← outsAt0_sweep m c _ hN, (leaves m c hp ⟨_, hN⟩).oam]
  unfold pointBlock
  rw [hb, hk]
  show Block.amaxTo _ (g.1 % 7) 896 = _
  rw [Nat.mod_eq_of_lt g.2]
  exact blockOf_amax g

end Cert.KernelIdeal.Val
-- ==== Proof.RefRead.lean ====
module

public import proofs.«01_k».proof.Proof.RefRun
public import proofs.«01_k».proof.Proof.Spec
public import Idealize.ShloMosaic.Lib.Pointwise

/-!
# The reference's results, element by element
-/

@[expose] public section

set_option maxRecDepth 16384

noncomputable section

namespace Cert.ReferenceIdeal.Read

open Cert.ReferenceIdeal Cert.ReferenceIdeal.Gen Cert.ReferenceIdeal.Run Idealize.ShloMosaic Cert.Attn

/-- The mask: a key at or before the query is seen. -/
theorem select_le {s x : ℕ} (hx : x < 896) (hs : s < 896) (a b : EReal) :
    Scalar.select (IntOp.cmpi .sle (BitVec.ofNat 32 x) (BitVec.ofNat 32 s)) a b = if x ≤ s then a else b := by
  unfold Scalar.select
  refine if_congr ?_ rfl rfl
  rw [show (1 : BitVec 1) = 1#1 from rfl, IntOp.cmpi_sle, BitVec.toInt_eq_toNat_of_lt (by simp; omega),
    BitVec.toInt_eq_toNat_of_lt (by simp; omega)]
  simp only [BitVec.toNat_ofNat]
  omega

/-- The largest magnitude over a set of cells that are the positions and lanes of one head. -/
theorem fold_mag {ι : Type} (T : Finset ι) (f : ι → EReal) (e : Fin 896 × Fin 128 → ι)
    (he : ∀ i, i ∈ T ↔ ∃ p, e p = i) :
    T.fold max (Ideal.ofBits .f32 0xFF800000#32) (fun i => mag (f i)) = amax fun s d => f (e (s, d)) := by
  rw [ofBits_neg_inf, fold_max_eq_sup]
  apply le_antisymm
  · refine Finset.sup_le fun i hi => ?_
    obtain ⟨p, rfl⟩ := (he i).1 hi
    exact Finset.le_sup (f := fun p : Fin 896 × Fin 128 => mag (f (e (p.1, p.2)))) (Finset.mem_univ p)
  · refine Finset.sup_le fun p _ => ?_
    exact Finset.le_sup (f := fun i => mag (f i)) ((he _).2 ⟨p, rfl⟩)

/-- The cells of one query head. -/
theorem mem_query (b : Fin 2) (h : Fin 56) (i : S2x896x56x128.Idx) :
    reduces_S2x896x56x128_S2x56.drop i = ix2 b h ↔ ∃ p : Fin 896 × Fin 128, ix4 b p.1 h p.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨p, rfl⟩
    funext a
    match a with
    | ⟨0, _⟩ => rfl
    | ⟨1, _⟩ => rfl

/-- The cells of one key or value head. -/
theorem mem_head (b : Fin 2) (h : Fin 8) (i : S2x896x8x128.Idx) :
    reduces_S2x896x8x128_S2x8.drop i = ix2 b h ↔ ∃ p : Fin 896 × Fin 128, ix4 b p.1 h p.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨p, rfl⟩
    funext a
    match a with
    | ⟨0, _⟩ => rfl
    | ⟨1, _⟩ => rfl

/-- The cells of one output head. -/
theorem mem_out (b : Fin 2) (kv : Fin 8) (g : Fin 7) (i : S2x8x7x896x128.Idx) :
    reduces_S2x8x7x896x128_S2x8x7.drop i = ix3 b kv g ↔ ∃ p : Fin 896 × Fin 128, ix5 b kv g p.1 p.2 = i := by
  constructor
  · intro e
    refine ⟨(i 3, i 4), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨p, rfl⟩
    funext a
    match a with
    | ⟨0, _⟩ => rfl
    | ⟨1, _⟩ => rfl
    | ⟨2, _⟩ => rfl

variable (X : Vec Ideal S2x896x7168 .bf16) (K W : Vec Ideal S2x896x8x128 .bf16) (qs : Vec Ideal S2x56 .f32)
  (ks vs : Vec Ideal S2x8 .f32)

/-- The query cells before scaling. -/
theorem pay2_apply (b : Fin 2) (s : Fin 896) (h : Fin 56) (d : Fin 128) :
    k0_pay2 X (ix4 b s h d) = X (ix3 b s ⟨h.1 * 128 + d.1, by omega⟩) := by
  pointwise [k0_pay2]

/-- The query codes. -/
theorem pay6_apply (b : Fin 2) (s : Fin 896) (h : Fin 56) (d : Fin 128) :
    k0_pay6 (k0_pay2 X) qs (ix4 b s h d) = qcode X qs b h s d := by
  pointwise [k0_pay6, k0_pay2]
  rfl

/-- The key or value codes. -/
theorem pay8_apply (b : Fin 2) (kv : Fin 8) (s : Fin 896) (d : Fin 128) :
    k0_pay8 K ks (ix4 b kv s d) = kcode K ks b kv s d := by
  pointwise [k0_pay8]
  rfl

/-- The value codes. -/
theorem pay9_apply (b : Fin 2) (kv : Fin 8) (s : Fin 896) (d : Fin 128) :
    k0_pay9 K ks (ix4 b kv s d) = kcode K ks b kv s d := by
  pointwise [k0_pay9]
  rfl

/-- The query codes, as stored. -/
theorem pay7_apply (b : Fin 2) (s : Fin 896) (l : Fin 7168) :
    k0_pay7 (k0_pay2 X) qs (ix3 b s l) = qcode X qs b ⟨l.1 / 128, by omega⟩ s ⟨l.1 % 128, by omega⟩ := by
  pointwise [k0_pay7, k0_pay6, k0_pay2]
  unfold qcode clipped
  simp only [Nat.div_add_mod']

/-- The largest magnitudes of the query heads. -/
theorem pay3_apply (b : Fin 2) (kv : Fin 8) (g : Fin 7) (l : Fin 128) :
    k0_pay3 X (ix4 b kv g l)
      = amax fun s d => X (ix3 b s ⟨(kv.1 * 7 + g.1) * 128 + d.1, by omega⟩) := by
  pointwise [k0_pay3, k0_pay2]
  exact fold_mag _ (fun x : S2x896x56x128.Idx => X (ix3 (x 0) (x 1) ⟨(x 2).1 * 128 + (x 3).1, _⟩))
    (fun p => ix4 b p.1 ⟨kv.1 * 7 + g.1, by omega⟩ p.2)
    (fun i => by rw [Finset.mem_filter]; simp only [Finset.mem_univ, true_and]; exact mem_query b _ i)

/-- The largest magnitudes of the key heads. -/
theorem pay4_apply (b : Fin 2) (kv : Fin 8) (l : Fin 128) :
    k0_pay4 K (ix4 b kv 0 l) = amax fun s d => K (ix4 b s kv d) := by
  pointwise [k0_pay4]
  exact fold_mag _ K (fun p => ix4 b p.1 kv p.2)
    (fun i => by rw [Finset.mem_filter]; simp only [Finset.mem_univ, true_and]; exact mem_head b _ i)

/-- The largest magnitudes of the value heads. -/
theorem pay5_apply (b : Fin 2) (kv : Fin 8) (l : Fin 128) :
    k0_pay5 K (ix4 b kv 0 l) = amax fun s d => K (ix4 b s kv d) := by
  pointwise [k0_pay5]
  exact fold_mag _ K (fun p => ix4 b p.1 kv p.2)
    (fun i => by rw [Finset.mem_filter]; simp only [Finset.mem_univ, true_and]; exact mem_head b _ i)

/-- The attention outputs, head by head. -/
theorem pay10_apply (b : Fin 2) (kv : Fin 8) (g : Fin 7) (s : Fin 896) (d : Fin 128) :
    k0_pay10 qs ks vs (k0_pay6 (k0_pay2 X) qs) (k0_pay8 K ks) (k0_pay9 W vs) (ix5 b kv g s d)
      = att X K W qs ks vs b kv g s d := by
  have h6 := pay6_apply X qs
  have h8 := pay8_apply K ks
  have h9 := pay9_apply W vs
  generalize k0_pay6 (k0_pay2 X) qs = A at *
  generalize k0_pay8 K ks = B at *
  generalize k0_pay9 W vs = C at *
  pointwise [k0_pay10]
  simp only [h6, h8, h9, select_le (Fin.isLt _) s.2, ofBits_neg_inf, fold_max_eq_sup]
  rfl

/-- The attention outputs, as stored. -/
theorem pay1_apply (b : Fin 2) (s : Fin 896) (l : Fin 7168) :
    k0_pay1 (k0_pay10 qs ks vs (k0_pay6 (k0_pay2 X) qs) (k0_pay8 K ks) (k0_pay9 W vs)) (ix3 b s l)
      = att X K W qs ks vs b ⟨l.1 / 896, by omega⟩ ⟨l.1 / 128 % 7, by omega⟩ s ⟨l.1 % 128, by omega⟩ := by
  have h := pay10_apply X K W qs ks vs
  generalize k0_pay10 qs ks vs (k0_pay6 (k0_pay2 X) qs) (k0_pay8 K ks) (k0_pay9 W vs) = A at *
  pointwise [k0_pay1]
  rw [h]

/-- The largest magnitudes of the outputs. -/
theorem pay11_apply (b : Fin 2) (kv : Fin 8) (g : Fin 7) (l : Fin 128) :
    k0_pay11 qs ks vs (k0_pay6 (k0_pay2 X) qs) (k0_pay8 K ks) (k0_pay9 W vs) (ix4 b kv g l)
      = amax fun s d => att X K W qs ks vs b kv g s d := by
  have h := pay10_apply X K W qs ks vs
  generalize k0_pay6 (k0_pay2 X) qs = A at *
  generalize k0_pay8 K ks = B at *
  generalize k0_pay9 W vs = C at *
  simp only [← h]
  pointwise [k0_pay11]
  exact fold_mag _ (k0_pay10 qs ks vs A B C) (fun p => ix5 b kv g p.1 p.2)
    (fun i => by rw [Finset.mem_filter]; simp only [Finset.mem_univ, true_and]; exact mem_out b _ _ i)

end Cert.ReferenceIdeal.Read
-- ==== Proof.Reference.lean ====
module

public import proofs.«01_k».proof.Proof.RefRun
public import proofs.«01_k».proof.Proof.RefRead
public import proofs.«01_k».proof.Proof.Results

/-!
# The reference's result arrays
-/

@[expose] public section

noncomputable section

namespace Cert.ReferenceIdeal.Read

open Cert.ReferenceIdeal Cert.ReferenceIdeal.Gen Cert.ReferenceIdeal.Run Idealize.ShloMosaic Cert.Attn

variable (X : Queries) (K W : Heads) (qs : QScales) (ks vs : Scales)

theorem zero2 : (![0, 0] : Fin 2 → ℕ) = fun _ => 0 := by funext a; revert a; decide
theorem zero3 : (![0, 0, 0] : Fin 3 → ℕ) = fun _ => 0 := by funext a; revert a; decide
theorem zero4 : (![0, 0, 0, 0] : Fin 4 → ℕ) = fun _ => 0 := by funext a; revert a; decide

/-- A load of the whole array reads the array. -/
theorem ld_queries : View.ld (Val := Elt Ideal) (e' := .bf16) X r0_0 = X := View.ld_unit_zero (Val := Elt Ideal) (e := .bf16) (S := S2x896x7168) zero3 _ X
theorem ld_heads : View.ld (Val := Elt Ideal) (e' := .bf16) K r0_1 = K := View.ld_unit_zero (Val := Elt Ideal) (e := .bf16) (S := S2x896x8x128) zero4 _ K
theorem ld_qscales : View.ld (Val := Elt Ideal) (e' := .f32) qs r0_2 = qs := View.ld_unit_zero (Val := Elt Ideal) (e := .f32) (S := S2x56) zero2 _ qs
theorem ld_scales : View.ld (Val := Elt Ideal) (e' := .f32) ks r0_3 = ks := View.ld_unit_zero (Val := Elt Ideal) (e := .f32) (S := S2x8) zero2 _ ks

/-- The queries, head by head. -/
theorem pay12_eq : k0_pay12 (F := Ideal) X K W qs ks vs = k0_pay2 X :=
  congrArg k0_pay2 (ld_queries X)
/-- The query codes. -/
theorem pay13_eq : k0_pay13 (F := Ideal) X K W qs ks vs = k0_pay6 (k0_pay2 X) qs :=
  congrArg₂ k0_pay6 (pay12_eq X K W qs ks vs) (ld_qscales qs)
/-- The key codes. -/
theorem pay14_eq : k0_pay14 (F := Ideal) X K W qs ks vs = k0_pay8 K ks :=
  congrArg₂ k0_pay8 (ld_heads K) (ld_scales ks)
/-- The value codes. -/
theorem pay15_eq : k0_pay15 (F := Ideal) X K W qs ks vs = k0_pay9 W vs :=
  congrArg₂ k0_pay9 (ld_heads W) (ld_scales vs)

theorem out_eq (b : Fin 2) (s : Fin 896) (l : Fin 7168) :
    G6 (F := Ideal) X K W qs ks vs (ix3 b s l) = outOf X K W qs ks vs b s l := by
  unfold G6
  rw [pay13_eq, pay14_eq, pay15_eq]
  exact pay1_apply X K W qs ks vs b s l
theorem qc_eq (b : Fin 2) (s : Fin 896) (l : Fin 7168) :
    G7 (F := Ideal) X K W qs ks vs (ix3 b s l) = qcOf X qs b s l := by
  unfold G7
  rw [pay12_eq]
  exact pay7_apply X qs b s l
theorem kc_eq (b : Fin 2) (kv : Fin 8) (s : Fin 896) (d : Fin 128) :
    G8 (F := Ideal) X K W qs ks vs (ix4 b kv s d) = kcode K ks b kv s d := by
  unfold G8
  rw [pay14_eq]
  exact pay8_apply K ks b kv s d
theorem vc_eq (b : Fin 2) (kv : Fin 8) (s : Fin 896) (d : Fin 128) :
    G9 (F := Ideal) X K W qs ks vs (ix4 b kv s d) = kcode W vs b kv s d := by
  unfold G9
  rw [pay15_eq]
  exact pay9_apply W vs b kv s d
theorem qam_eq (b : Fin 2) (kv : Fin 8) (g : Fin 7) (l : Fin 128) :
    G10 (F := Ideal) X K W qs ks vs (ix4 b kv g l) = qamOf X b kv g :=
  pay3_apply X b kv g l
theorem kam_eq (b : Fin 2) (kv : Fin 8) (l : Fin 128) :
    G11 (F := Ideal) X K W qs ks vs (ix4 b kv 0 l) = hamOf K b kv :=
  pay4_apply K b kv l
theorem vam_eq (b : Fin 2) (kv : Fin 8) (l : Fin 128) :
    G12 (F := Ideal) X K W qs ks vs (ix4 b kv 0 l) = hamOf W b kv :=
  pay5_apply W b kv l
theorem oam_eq (b : Fin 2) (kv : Fin 8) (g : Fin 7) (l : Fin 128) :
    G13 (F := Ideal) X K W qs ks vs (ix4 b kv g l) = oamOf X K W qs ks vs b kv g := by
  unfold G13
  rw [pay13_eq, pay14_eq, pay15_eq]
  exact pay11_apply X K W qs ks vs b kv g l

end Cert.ReferenceIdeal.Read
-- ==== Proof.Agree.lean ====
module

public import proofs.«01_k».proof.Proof.Outputs
public import proofs.«01_k».proof.Proof.Reference

/-!
# The two programs' result arrays are equal
-/

@[expose] public section

noncomputable section

namespace Cert.Agree

open Cert.KernelIdeal Cert.KernelIdeal.Val Idealize.ShloMosaic Cert.Attn Cert.ReferenceIdeal.Read

/-- Two arrays of three axes that agree at every index. -/
theorem ext3 {α : Type} {a b c : ℕ} {f g : (⟨3, ![a, b, c]⟩ : Shape).Idx → α} (h : ∀ i j k, f (ix3 i j k) = g (ix3 i j k)) : f = g :=
  funext fun i => by rw [eq_ix3 i]; exact h _ _ _

/-- Two arrays of four axes that agree at every index. -/
theorem ext4 {α : Type} {a b c d : ℕ} {f g : (⟨4, ![a, b, c, d]⟩ : Shape).Idx → α}
    (h : ∀ i j k l, f (ix4 i j k l) = g (ix4 i j k l)) : f = g :=
  funext fun i => by rw [eq_ix4 i]; exact h _ _ _ _

variable (m : (ℓ : Loc nD τ sig) → Buf (Elt Ideal) ℓ) (c : Dev nD) (hp : Positive (argQs m c) (argKs m c))
include hp

theorem out : ReferenceIdeal.Run.G6 (F := Ideal) (argX m c) (argK m c) (argV m c) (argQs m c) (argKs m c) (argVs m c) = KernelIdeal.Value.G8 m c :=
  ext3 fun b s l => (out_eq _ _ _ _ _ _ b s l).trans (G8_eq m c hp b s l).symm
theorem qc : ReferenceIdeal.Run.G7 (F := Ideal) (argX m c) (argK m c) (argV m c) (argQs m c) (argKs m c) (argVs m c) = KernelIdeal.Value.G9 m c :=
  ext3 fun b s l => (qc_eq _ _ _ _ _ _ b s l).trans (G9_eq m c hp b s l).symm
theorem kc : ReferenceIdeal.Run.G8 (F := Ideal) (argX m c) (argK m c) (argV m c) (argQs m c) (argKs m c) (argVs m c) = KernelIdeal.Value.G10 m c :=
  ext4 fun b kv s d => (kc_eq _ _ _ _ _ _ b kv s d).trans (G10_eq m c hp b kv s d).symm
theorem vc : ReferenceIdeal.Run.G9 (F := Ideal) (argX m c) (argK m c) (argV m c) (argQs m c) (argKs m c) (argVs m c) = KernelIdeal.Value.G11 m c :=
  ext4 fun b kv s d => (vc_eq _ _ _ _ _ _ b kv s d).trans (G11_eq m c hp b kv s d).symm
theorem qam : ReferenceIdeal.Run.G10 (F := Ideal) (argX m c) (argK m c) (argV m c) (argQs m c) (argKs m c) (argVs m c) = KernelIdeal.Value.G12 m c :=
  ext4 fun b kv g l => (qam_eq _ _ _ _ _ _ b kv g l).trans (G12_eq m c hp b kv g l).symm
theorem kam : ReferenceIdeal.Run.G11 (F := Ideal) (argX m c) (argK m c) (argV m c) (argQs m c) (argKs m c) (argVs m c) = KernelIdeal.Value.G13 m c :=
  ext4 fun b kv z l => by
    obtain rfl : z = (0 : Fin 1) := Subsingleton.elim _ _
    exact (kam_eq _ _ _ _ _ _ b kv l).trans (G13_eq m c hp b kv l).symm
theorem vam : ReferenceIdeal.Run.G12 (F := Ideal) (argX m c) (argK m c) (argV m c) (argQs m c) (argKs m c) (argVs m c) = KernelIdeal.Value.G14 m c :=
  ext4 fun b kv z l => by
    obtain rfl : z = (0 : Fin 1) := Subsingleton.elim _ _
    exact (vam_eq _ _ _ _ _ _ b kv l).trans (G14_eq m c hp b kv l).symm
theorem oam : ReferenceIdeal.Run.G13 (F := Ideal) (argX m c) (argK m c) (argV m c) (argQs m c) (argKs m c) (argVs m c) = KernelIdeal.Value.G15 m c :=
  ext4 fun b kv g l => (oam_eq _ _ _ _ _ _ b kv g l).trans (G15_eq m c hp b kv g l).symm

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_positive
public import proofs.«01_k».proof.Proof.Gen.KernelIdeal.Value
public import proofs.«01_k».proof.Proof.RefRun
public import proofs.«01_k».proof.Proof.Precond
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized kernel and the reference end with equal results. -/
theorem algebraic [Cert.Pre_scales_positive.Facts] :
    Cert.algebraic_KernelIdeal_ReferenceIdeal_pre_scales_positive
      (hKernelIdeal := Cert.KernelIdeal.Gen.facts) (hReferenceIdeal := Cert.ReferenceIdeal.Gen.facts) := by
  intro m g m' g' hm hargs
  have hp := Cert.KernelIdeal.Val.positive m hm
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.G13 m, Cert.KernelIdeal.Value.G14 m, Cert.KernelIdeal.Value.G15 m,
    Cert.KernelIdeal.Value.run m g, ?_⟩
  refine (θ_run _ _ _).mono (fun r h c => ?_) (Cert.ReferenceIdeal.Run.run m' g')
  obtain ⟨e0, e1, e2, e3, e4, e5⟩ := hargs c
  obtain ⟨h0, h1, h2, h3, h4, h5, h6, h7, k⟩ := h c
  rw [e0, e1, e2, e3, e4, e5] at h0 h1 h2 h3 h4 h5 h6 h7
  exact ⟨h0.trans (Cert.Agree.out m c (hp c)), h1.trans (Cert.Agree.qc m c (hp c)), h2.trans (Cert.Agree.kc m c (hp c)),
    h3.trans (Cert.Agree.vc m c (hp c)), h4.trans (Cert.Agree.qam m c (hp c)), h5.trans (Cert.Agree.kam m c (hp c)),
    h6.trans (Cert.Agree.vam m c (hp c)), h7.trans (Cert.Agree.oam m c (hp c)), k⟩

theorem claim : Cert.Claim := ⟨Cert.Kernel.Gen.facts, Cert.KernelIdeal.Gen.facts, Cert.ReferenceIdeal.Gen.facts, Cert.Pre_scales_positive.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  IdealRules.named_const.statement _ _ _ _ _ rfl,
  algebraic⟩

end Cert.Proof

end
